-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordinary [hPre_ordinary : Cert.Pre_ordinary.Facts] (m : (ℓ : Loc Cert.KernelIdeal.nD Cert.KernelIdeal.τ Cert.KernelIdeal.sig) → Buf (Elt Ideal) ℓ) : Prop :=
  ∀ c : Dev Cert.KernelIdeal.nD,
    (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordinary [hPre_ordinary : Cert.Pre_ordinary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ordinary [hKernelIdeal : Cert.KernelIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordinary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ordinary [hReferenceIdeal : Cert.ReferenceIdeal.Facts] [hPre_ordinary : Cert.Pre_ordinary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordinary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_2032" .f32 0x3A010204#32 ((2032⁻¹ : ℝ) : EReal)
  ∧ IdealRules.named_const.Statement Cert.KernelIdeal.κ "inv_2016" .f32 0x3A020821#32 ((2016⁻¹ : ℝ) : EReal)
  ∧ IdealRules.named_const.Statement Cert.KernelIdeal.κ "inv_2008" .f32 0x3A028CC0#32 ((2008⁻¹ : ℝ) : EReal)
  ∧ IdealRules.named_const.Statement Cert.KernelIdeal.κ "inv_1984" .f32 0x3A042108#32 ((1984⁻¹ : ℝ) : EReal)
  ∧ IdealRules.named_const.Statement Cert.KernelIdeal.κ "inv_1968" .f32 0x3A053408#32 ((1968⁻¹ : ℝ) : EReal)
  ∧ IdealRules.named_const.Statement Cert.KernelIdeal.κ "inv_1952" .f32 0x3A064B8A#32 ((1952⁻¹ : ℝ) : EReal)
  ∧ IdealRules.named_const.Statement Cert.KernelIdeal.κ "inv_1936" .f32 0x3A0767AB#32 ((1936⁻¹ : ℝ) : EReal)
  ∧ IdealRules.named_const.Statement Cert.KernelIdeal.κ "inv_1912" .f32 0x3A091AC7#32 ((1912⁻¹ : ℝ) : EReal)
  ∧ IdealRules.named_const.Statement Cert.KernelIdeal.κ "inv_1888" .f32 0x3A0AD8F3#32 ((1888⁻¹ : ℝ) : EReal)
  ∧ IdealRules.named_const.Statement Cert.KernelIdeal.κ "inv_1848" .f32 0x3A0DDA52#32 ((1848⁻¹ : ℝ) : EReal)
  ∧ IdealRules.named_const.Statement Cert.KernelIdeal.κ "inv_1816" .f32 0x3A105A38#32 ((1816⁻¹ : ℝ) : EReal)
  ∧ IdealRules.named_const.Statement Cert.KernelIdeal.κ "inv_1768" .f32 0x3A144581#32 ((1768⁻¹ : ℝ) : EReal)
  ∧ IdealRules.named_const.Statement Cert.KernelIdeal.κ "inv_1712" .f32 0x3A191F1A#32 ((1712⁻¹ : ℝ) : EReal)
  ∧ IdealRules.named_const.Statement Cert.KernelIdeal.κ "inv_1640" .f32 0x3A1FD80A#32 ((1640⁻¹ : ℝ) : EReal)
  ∧ IdealRules.named_const.Statement Cert.KernelIdeal.κ "inv_1560" .f32 0x3A280A81#32 ((1560⁻¹ : ℝ) : EReal)
  ∧ IdealRules.named_const.Statement Cert.KernelIdeal.κ "inv_1464" .f32 0x3A330F63#32 ((1464⁻¹ : ℝ) : EReal)
  ∧ IdealRules.named_const.Statement Cert.KernelIdeal.κ "inv_1352" .f32 0x3A41E4BC#32 ((1352⁻¹ : ℝ) : EReal)
  ∧ IdealRules.named_const.Statement Cert.KernelIdeal.κ "inv_1216" .f32 0x3A579436#32 ((1216⁻¹ : ℝ) : EReal)
  ∧ IdealRules.named_const.Statement Cert.KernelIdeal.κ "inv_1048" .f32 0x3A7A232D#32 ((1048⁻¹ : ℝ) : EReal)
  ∧ IdealRules.named_const.Statement Cert.KernelIdeal.κ "inv_856" .f32 0x3A991F1A#32 ((856⁻¹ : ℝ) : EReal)
  ∧ IdealRules.named_const.Statement Cert.KernelIdeal.κ "inv_624" .f32 0x3AD20D21#32 ((624⁻¹ : ℝ) : EReal)
  ∧ IdealRules.named_const.Statement Cert.KernelIdeal.κ "inv_344" .f32 0x3B3E82FA#32 ((344⁻¹ : ℝ) : EReal)

def algebraic_KernelIdeal_ReferenceIdeal_pre_ordinary [hKernelIdeal : Cert.KernelIdeal.Facts] [hReferenceIdeal : Cert.ReferenceIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordinary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ordinary : Cert.Pre_ordinary.Facts),
    quiescent_Kernel (hKernel := hKernel)
    ∧ quiescent_KernelIdeal (hKernelIdeal := hKernelIdeal)
    ∧ quiescent_KernelIdeal_pre_ordinary (hKernelIdeal := hKernelIdeal) (hPre_ordinary := hPre_ordinary)
    ∧ quiescent_ReferenceIdeal (hReferenceIdeal := hReferenceIdeal)
    ∧ quiescent_ReferenceIdeal_pre_ordinary (hReferenceIdeal := hReferenceIdeal) (hPre_ordinary := hPre_ordinary)
    ∧ preserves_Kernel_KernelIdeal
    ∧ algebraic_KernelIdeal_ReferenceIdeal_pre_ordinary (hKernelIdeal := hKernelIdeal) (hReferenceIdeal := hReferenceIdeal) (hPre_ordinary := hPre_ordinary)
-- ==== Pre_ordinary.lean ====
abbrev S32x9x2048 : Shape := ⟨3, ![32, 9, 2048]⟩
abbrev S756x1x9 : Shape := ⟨3, ![756, 1, 9]⟩
abbrev S26x9x84 : Shape := ⟨3, ![26, 9, 84]⟩
abbrev S84x59 : Shape := ⟨2, ![84, 59]⟩
abbrev S26x9 : Shape := ⟨2, ![26, 9]⟩
abbrev S9x84x9 : Shape := ⟨3, ![9, 84, 9]⟩
abbrev S_ : Shape := ⟨0, ![]⟩
abbrev S32x9x4088 : Shape := ⟨3, ![32, 9, 4088]⟩
abbrev S26x9x1 : Shape := ⟨3, ![26, 9, 1]⟩
abbrev S2048 : Shape := ⟨1, ![2048]⟩
abbrev S1x1x2048 : Shape := ⟨3, ![1, 1, 2048]⟩
abbrev S26x9x2048 : Shape := ⟨3, ![26, 9, 2048]⟩
abbrev S26x9x2048x1 : Shape := ⟨4, ![26, 9, 2048, 1]⟩
abbrev S32x9x26x9x2048 : Shape := ⟨5, ![32, 9, 26, 9, 2048]⟩
abbrev S9x84x32x26x2048 : Shape := ⟨5, ![9, 84, 32, 26, 2048]⟩
abbrev S32x26x9x84x2048 : Shape := ⟨5, ![32, 26, 9, 84, 2048]⟩
abbrev S26x84x32x2048 : Shape := ⟨4, ![26, 84, 32, 2048]⟩
abbrev S26x32x84x2048 : Shape := ⟨4, ![26, 32, 84, 2048]⟩
abbrev S1x84x9 : Shape := ⟨3, ![1, 84, 9]⟩

class Facts : Prop where
  shapeCasts_S756x1x9_S9x84x9 : S756x1x9.ShapeCasts S9x84x9
  pads_S32x9x2048_S32x9x4088_000_000_102010200 : S32x9x2048.Pads (![0, 0, 1020] : Fin 3 → Nat) ![0, 0, 1020] ![0, 0, 0] S32x9x4088
  h_S_ : 0 < S_.numel
  bcast_S26x9_S26x9x1_0_1 : S26x9.BroadcastsInDim S26x9x1 (![0, 1] : Fin 2 → Fin S26x9x1.rank)
  bcast_S2048_S1x1x2048_2 : S2048.BroadcastsInDim S1x1x2048 (![2] : Fin 1 → Fin S1x1x2048.rank)
  bcast_S26x9x1_S26x9x2048_0_1_2 : S26x9x1.BroadcastsInDim S26x9x2048 (![0, 1, 2] : Fin 3 → Fin S26x9x2048.rank)
  bcast_S1x1x2048_S26x9x2048_0_1_2 : S1x1x2048.BroadcastsInDim S26x9x2048 (![0, 1, 2] : Fin 3 → Fin S26x9x2048.rank)
  bcast_S_S26x9x2048 : S_.BroadcastsInDim S26x9x2048 (![] : Fin 0 → Fin S26x9x2048.rank)
  bcast_S26x9x2048_S26x9x2048x1_0_1_2 : S26x9x2048.BroadcastsInDim S26x9x2048x1 (![0, 1, 2] : Fin 3 → Fin S26x9x2048x1.rank)
  transposes_S9x84x32x26x2048_S32x26x9x84x2048_2_3_0_1_4 : S9x84x32x26x2048.Transposes [2, 3, 0, 1, 4] S32x26x9x84x2048
  transposes_S26x84x32x2048_S26x32x84x2048_0_2_1_3 : S26x84x32x2048.Transposes [0, 2, 1, 3] S26x32x84x2048
  bcast_S_S26x9x84 : S_.BroadcastsInDim S26x9x84 (![] : Fin 0 → Fin S26x9x84.rank)
  reducesTo_S26x9x84_S_d0_1_2 : S26x9x84.ReducesTo [0, 1, 2] S_
  bcast_S_S84x59 : S_.BroadcastsInDim S84x59 (![] : Fin 0 → Fin S84x59.rank)
  reducesTo_S84x59_S_d0_1 : S84x59.ReducesTo [0, 1] S_
  slices_S9x84x9_S1x84x9_0_0_0 : S9x84x9.Slices ![0, 0, 0] S1x84x9
  bcast_S1x84x9_S9x84x9_0_1_2 : S1x84x9.BroadcastsInDim S9x84x9 (![0, 1, 2] : Fin 3 → Fin S9x84x9.rank)
  reducesTo_S9x84x9_S_d0_1_2 : S9x84x9.ReducesTo [0, 1, 2] S_
  bcast_S_S26x32x84x2048 : S_.BroadcastsInDim S26x32x84x2048 (![] : Fin 0 → Fin S26x32x84x2048.rank)
  reducesTo_S26x32x84x2048_S_d0_1_2_3 : S26x32x84x2048.ReducesTo [0, 1, 2, 3] S_
  gather_S32x9x4088_S26x9x2048x1_S32x9x26x9x2048_01_2_n_n_2_3_3291_wf : GatherDims.WF S32x9x4088 S26x9x2048x1 S32x9x26x9x2048 [0, 1] [2] [] [2] [] 3 ![32, 9, 1]
  dot_S9x84x9_S32x9x26x9x2048_S9x84x32x26x2048_2_3_1_024_0_1_wf : DotDims.WF S9x84x9 S32x9x26x9x2048 S9x84x32x26x2048 [2] [3] [1] [0, 2, 4] [0] [1]
  dot_S26x9x84_S32x26x9x84x2048_S26x84x32x2048_1_2_n_04_02_13_wf : DotDims.WF S26x9x84 S32x26x9x84x2048 S26x84x32x2048 [1] [2] [] [0, 4] [0, 2] [1, 3]

variable [Facts]

def gather_S32x9x4088_S26x9x2048x1_S32x9x26x9x2048_01_2_n_n_2_3_3291 : GatherDims S32x9x4088 S26x9x2048x1 S32x9x26x9x2048 where
  offsetDims := [0, 1]
  collapsedSliceDims := [2]
  operandBatchingDims := []
  startIndicesBatchingDims := []
  startIndexMap := [2]
  indexVectorDim := 3
  sliceSizes := ![32, 9, 1]
  wf := gather_S32x9x4088_S26x9x2048x1_S32x9x26x9x2048_01_2_n_n_2_3_3291_wf
def dot_S9x84x9_S32x9x26x9x2048_S9x84x32x26x2048_2_3_1_024_0_1 : DotDims S9x84x9 S32x9x26x9x2048 S9x84x32x26x2048 where
  lhsContracting := [2]
  rhsContracting := [3]
  lhsNonContracting := [1]
  rhsNonContracting := [0, 2, 4]
  lhsBatch := [0]
  rhsBatch := [1]
  wf := dot_S9x84x9_S32x9x26x9x2048_S9x84x32x26x2048_2_3_1_024_0_1_wf
def dot_S26x9x84_S32x26x9x84x2048_S26x84x32x2048_1_2_n_04_02_13 : DotDims S26x9x84 S32x26x9x84x2048 S26x84x32x2048 where
  lhsContracting := [1]
  rhsContracting := [2]
  lhsNonContracting := []
  rhsNonContracting := [0, 4]
  lhsBatch := [0, 2]
  rhsBatch := [1, 3]
  wf := dot_S26x9x84_S32x26x9x84x2048_S26x84x32x2048_1_2_n_04_02_13_wf

noncomputable abbrev lit0 : Fin 234 → BitVec 32 := fun
  | 0 => 1016#32 | 1 => 1017#32 | 2 => 1018#32 | 3 => 1019#32 | 4 => 1020#32 | 5 => 1021#32 | 6 => 1022#32 | 7 => 1023#32
  | 8 => 1024#32 | 9 => 1012#32 | 10 => 1014#32 | 11 => 1016#32 | 12 => 1018#32 | 13 => 1020#32 | 14 => 1022#32 | 15 => 1024#32
  | 16 => 1026#32 | 17 => 1028#32 | 18 => 1008#32 | 19 => 1011#32 | 20 => 1014#32 | 21 => 1017#32 | 22 => 1020#32 | 23 => 1023#32
  | 24 => 1026#32 | 25 => 1029#32 | 26 => 1032#32 | 27 => 1004#32 | 28 => 1008#32 | 29 => 1012#32 | 30 => 1016#32 | 31 => 1020#32
  | 32 => 1024#32 | 33 => 1028#32 | 34 => 1032#32 | 35 => 1036#32 | 36 => 1000#32 | 37 => 1005#32 | 38 => 1010#32 | 39 => 1015#32
  | 40 => 1020#32 | 41 => 1025#32 | 42 => 1030#32 | 43 => 1035#32 | 44 => 1040#32 | 45 => 992#32 | 46 => 999#32 | 47 => 1006#32
  | 48 => 1013#32 | 49 => 1020#32 | 50 => 1027#32 | 51 => 1034#32 | 52 => 1041#32 | 53 => 1048#32 | 54 => 988#32 | 55 => 996#32
  | 56 => 1004#32 | 57 => 1012#32 | 58 => 1020#32 | 59 => 1028#32 | 60 => 1036#32 | 61 => 1044#32 | 62 => 1052#32 | 63 => 980#32
  | 64 => 990#32 | 65 => 1000#32 | 66 => 1010#32 | 67 => 1020#32 | 68 => 1030#32 | 69 => 1040#32 | 70 => 1050#32 | 71 => 1060#32
  | 72 => 972#32 | 73 => 984#32 | 74 => 996#32 | 75 => 1008#32 | 76 => 1020#32 | 77 => 1032#32 | 78 => 1044#32 | 79 => 1056#32
  | 80 => 1068#32 | 81 => 964#32 | 82 => 978#32 | 83 => 992#32 | 84 => 1006#32 | 85 => 1020#32 | 86 => 1034#32 | 87 => 1048#32
  | 88 => 1062#32 | 89 => 1076#32 | 90 => 952#32 | 91 => 969#32 | 92 => 986#32 | 93 => 1003#32 | 94 => 1020#32 | 95 => 1037#32
  | 96 => 1054#32 | 97 => 1071#32 | 98 => 1088#32 | 99 => 940#32 | 100 => 960#32 | 101 => 980#32 | 102 => 1000#32 | 103 => 1020#32
  | 104 => 1040#32 | 105 => 1060#32 | 106 => 1080#32 | 107 => 1100#32 | 108 => 920#32 | 109 => 945#32 | 110 => 970#32 | 111 => 995#32
  | 112 => 1020#32 | 113 => 1045#32 | 114 => 1070#32 | 115 => 1095#32 | 116 => 1120#32 | 117 => 904#32 | 118 => 933#32 | 119 => 962#32
  | 120 => 991#32 | 121 => 1020#32 | 122 => 1049#32 | 123 => 1078#32 | 124 => 1107#32 | 125 => 1136#32 | 126 => 880#32 | 127 => 915#32
  | 128 => 950#32 | 129 => 985#32 | 130 => 1020#32 | 131 => 1055#32 | 132 => 1090#32 | 133 => 1125#32 | 134 => 1160#32 | 135 => 852#32
  | 136 => 894#32 | 137 => 936#32 | 138 => 978#32 | 139 => 1020#32 | 140 => 1062#32 | 141 => 1104#32 | 142 => 1146#32 | 143 => 1188#32
  | 144 => 816#32 | 145 => 867#32 | 146 => 918#32 | 147 => 969#32 | 148 => 1020#32 | 149 => 1071#32 | 150 => 1122#32 | 151 => 1173#32
  | 152 => 1224#32 | 153 => 776#32 | 154 => 837#32 | 155 => 898#32 | 156 => 959#32 | 157 => 1020#32 | 158 => 1081#32 | 159 => 1142#32
  | 160 => 1203#32 | 161 => 1264#32 | 162 => 728#32 | 163 => 801#32 | 164 => 874#32 | 165 => 947#32 | 166 => 1020#32 | 167 => 1093#32
  | 168 => 1166#32 | 169 => 1239#32 | 170 => 1312#32 | 171 => 672#32 | 172 => 759#32 | 173 => 846#32 | 174 => 933#32 | 175 => 1020#32
  | 176 => 1107#32 | 177 => 1194#32 | 178 => 1281#32 | 179 => 1368#32 | 180 => 604#32 | 181 => 708#32 | 182 => 812#32 | 183 => 916#32
  | 184 => 1020#32 | 185 => 1124#32 | 186 => 1228#32 | 187 => 1332#32 | 188 => 1436#32 | 189 => 520#32 | 190 => 645#32 | 191 => 770#32
  | 192 => 895#32 | 193 => 1020#32 | 194 => 1145#32 | 195 => 1270#32 | 196 => 1395#32 | 197 => 1520#32 | 198 => 424#32 | 199 => 573#32
  | 200 => 722#32 | 201 => 871#32 | 202 => 1020#32 | 203 => 1169#32 | 204 => 1318#32 | 205 => 1467#32 | 206 => 1616#32 | 207 => 308#32
  | 208 => 486#32 | 209 => 664#32 | 210 => 842#32 | 211 => 1020#32 | 212 => 1198#32 | 213 => 1376#32 | 214 => 1554#32 | 215 => 1732#32
  | 216 => 168#32 | 217 => 381#32 | 218 => 594#32 | 219 => 807#32 | 220 => 1020#32 | 221 => 1233#32 | 222 => 1446#32 | 223 => 1659#32
  | 224 => 1872#32 | 225 => 0#32 | 226 => 255#32 | 227 => 510#32 | 228 => 765#32 | 229 => 1020#32 | 230 => 1275#32 | 231 => 1530#32
  | 232 => 1785#32 | 233 => 2040#32
  | _ => 0#32

def fn_pad {F : FTy → Type} [FloatOps F] (arg0 : FVec F S32x9x2048 .f32) (arg1 : IVec S_ 32) : FVec F S32x9x4088 .f32 :=
  let v0 : FVec F S_ .f32 := sitofp .f32 arg1
  let v1 : FVec F S32x9x4088 .f32 := (fun x v => pad S32x9x4088 ![0, 0, 1020] ![0, 0, 1020] ![0, 0, 0] x v pads_S32x9x2048_S32x9x4088_000_000_102010200 h_S_) arg0 v0
  v1

def fn_part2 {F : FTy → Type} [FloatOps F] (main_v33 : IVec S_ 1) (main_v36 : IVec S26x32x84x2048 1) (main_c_8 : IVec S_ 1) : IVec S_ 1 :=
  let main_v37 : IVec S_ 1 := (fun x v => Host.reduce IntOp.andi x v reducesTo_S26x32x84x2048_S_d0_1_2_3 h_S_) main_v36 main_c_8
  let main_v38 : IVec S_ 1 := andi main_v33 main_v37
  main_v38

def fn_part1 {F : FTy → Type} [FloatOps F] (main_arg2 : FVec F S26x9x84 .f32) (main_arg3 : FVec F S84x59 .f32) (main_v0 : FVec F S9x84x9 .f32) (main_v19 : FVec F S26x32x84x2048 .f32) : IVec S_ 1 :=
  let main_v20 : FVec F S26x9x84 .f32 := Host.absf main_arg2
  let main_cst : FVec F S_ .f32 := constant S_ .f32 0x7F800000#32
  let main_v21 : FVec F S26x9x84 .f32 := broadcastInDim S26x9x84 ![] bcast_S_S26x9x84 main_cst
  let main_v22 : IVec S26x9x84 1 := cmpf .olt main_v20 main_v21
  let main_c_3 : IVec S_ 1 := constantI S_ 1 1#1
  let main_v23 : IVec S_ 1 := (fun x v => Host.reduce IntOp.andi x v reducesTo_S26x9x84_S_d0_1_2 h_S_) main_v22 main_c_3
  let main_v24 : FVec F S84x59 .f32 := Host.absf main_arg3
  let main_cst_4 : FVec F S_ .f32 := constant S_ .f32 0x7F800000#32
  let main_v25 : FVec F S84x59 .f32 := broadcastInDim S84x59 ![] bcast_S_S84x59 main_cst_4
  let main_v26 : IVec S84x59 1 := cmpf .olt main_v24 main_v25
  let main_c_5 : IVec S_ 1 := constantI S_ 1 1#1
  let main_v27 : IVec S_ 1 := (fun x v => Host.reduce IntOp.andi x v reducesTo_S84x59_S_d0_1 h_S_) main_v26 main_c_5
  let main_v28 : IVec S_ 1 := andi main_v23 main_v27
  let main_v29 : FVec F S1x84x9 .f32 := (extractStridedSlice S1x84x9 ![0, 0, 0] · slices_S9x84x9_S1x84x9_0_0_0) main_v0
  let main_v30 : FVec F S9x84x9 .f32 := broadcastInDim S9x84x9 ![0, 1, 2] bcast_S1x84x9_S9x84x9_0_1_2 main_v29
  let main_v31 : IVec S9x84x9 1 := cmpf .oeq main_v0 main_v30
  let main_c_6 : IVec S_ 1 := constantI S_ 1 1#1
  let main_v32 : IVec S_ 1 := (fun x v => Host.reduce IntOp.andi x v reducesTo_S9x84x9_S_d0_1_2 h_S_) main_v31 main_c_6
  let main_v33 : IVec S_ 1 := andi main_v28 main_v32
  let main_v34 : FVec F S26x32x84x2048 .f32 := Host.absf main_v19
  let main_cst_7 : FVec F S_ .f32 := constant S_ .f32 0x43800000#32
  let main_v35 : FVec F S26x32x84x2048 .f32 := broadcastInDim S26x32x84x2048 ![] bcast_S_S26x32x84x2048 main_cst_7
  let main_v36 : IVec S26x32x84x2048 1 := cmpf .olt main_v34 main_v35
  let main_c_8 : IVec S_ 1 := constantI S_ 1 1#1
  fn_part2 (F := F) main_v33 main_v36 main_c_8

def fn {F : FTy → Type} [FloatOps F] (main_arg0 : FVec F S32x9x2048 .f32) (main_arg1 : FVec F S756x1x9 .f32) (main_arg2 : FVec F S26x9x84 .f32) (main_arg3 : FVec F S84x59 .f32) : IVec S_ 1 :=
  let main_c : IVec S26x9 32 := fun i => lit0 (S26x9.rowMajor i)
  let main_v0 : FVec F S9x84x9 .f32 := shapeCast S9x84x9 main_arg1 shapeCasts_S756x1x9_S9x84x9
  let main_c_0 : IVec S_ 32 := constantI S_ 32 0#32
  let main_v1 : FVec F S32x9x4088 .f32 := fn_pad (F := F) main_arg0 main_c_0
  let main_v2 : IVec S26x9x1 32 := broadcastInDim S26x9x1 ![0, 1] bcast_S26x9_S26x9x1_0_1 main_c
  let main_v3 : IVec S2048 32 := iotaInDim S2048 32 0
  let main_v4 : IVec S1x1x2048 32 := broadcastInDim S1x1x2048 ![2] bcast_S2048_S1x1x2048_2 main_v3
  let main_v5 : IVec S26x9x2048 32 := broadcastInDim S26x9x2048 ![0, 1, 2] bcast_S26x9x1_S26x9x2048_0_1_2 main_v2
  let main_v6 : IVec S26x9x2048 32 := broadcastInDim S26x9x2048 ![0, 1, 2] bcast_S1x1x2048_S26x9x2048_0_1_2 main_v4
  let main_v7 : IVec S26x9x2048 32 := addi main_v5 main_v6
  let main_c_1 : IVec S_ 32 := constantI S_ 32 0#32
  let main_v8 : IVec S26x9x2048 32 := broadcastInDim S26x9x2048 ![] bcast_S_S26x9x2048 main_c_1
  let main_v9 : IVec S26x9x2048 1 := cmpi .slt main_v7 main_v8
  let main_c_2 : IVec S_ 32 := constantI S_ 32 4088#32
  let main_v10 : IVec S26x9x2048 32 := broadcastInDim S26x9x2048 ![] bcast_S_S26x9x2048 main_c_2
  let main_v11 : IVec S26x9x2048 32 := addi main_v7 main_v10
  let main_v12 : IVec S26x9x2048 32 := select main_v9 main_v11 main_v7
  let main_v13 : IVec S26x9x2048x1 32 := broadcastInDim S26x9x2048x1 ![0, 1, 2] bcast_S26x9x2048_S26x9x2048x1_0_1_2 main_v12
  let main_v14 : FVec F S32x9x26x9x2048 .f32 := (fun x i => Host.gather gather_S32x9x4088_S26x9x2048x1_S32x9x26x9x2048_01_2_n_n_2_3_3291 x i) main_v1 main_v13
  let main_v15 : FVec F S9x84x9 .f32 := shapeCast S9x84x9 main_arg1 shapeCasts_S756x1x9_S9x84x9
  let main_v16 : FVec F S9x84x32x26x2048 .f32 := (fun l r => Host.dotGeneral dot_S9x84x9_S32x9x26x9x2048_S9x84x32x26x2048_2_3_1_024_0_1 none l r) main_v15 main_v14
  let main_v17 : FVec F S32x26x9x84x2048 .f32 := (transpose S32x26x9x84x2048 [2, 3, 0, 1, 4] · transposes_S9x84x32x26x2048_S32x26x9x84x2048_2_3_0_1_4) main_v16
  let main_v18 : FVec F S26x84x32x2048 .f32 := (fun l r => Host.dotGeneral dot_S26x9x84_S32x26x9x84x2048_S26x84x32x2048_1_2_n_04_02_13 none l r) main_arg2 main_v17
  let main_v19 : FVec F S26x32x84x2048 .f32 := (transpose S26x32x84x2048 [0, 2, 1, 3] · transposes_S26x84x32x2048_S26x32x84x2048_0_2_1_3) main_v18
  fn_part1 (F := F) main_arg2 main_arg3 main_v0 main_v19
-- ==== Kernel.lean ====
abbrev S32x9x2048 : Shape := ⟨3, ![32, 9, 2048]⟩
abbrev S756x1x9 : Shape := ⟨3, ![756, 1, 9]⟩
abbrev S26x9x84 : Shape := ⟨3, ![26, 9, 84]⟩
abbrev S84x59 : Shape := ⟨2, ![84, 59]⟩
abbrev S84 : Shape := ⟨1, ![84]⟩
abbrev S9912 : Shape := ⟨1, ![9912]⟩
abbrev S84x1x9 : Shape := ⟨3, ![84, 1, 9]⟩
abbrev S84x9 : Shape := ⟨2, ![84, 9]⟩
abbrev S26x84x9 : Shape := ⟨3, ![26, 84, 9]⟩
abbrev S1x84x9x1 : Shape := ⟨4, ![1, 84, 9, 1]⟩
abbrev S26x84x1x9 : Shape := ⟨4, ![26, 84, 1, 9]⟩
abbrev S26x84x9x9 : Shape := ⟨4, ![26, 84, 9, 9]⟩
abbrev S_ : Shape := ⟨0, ![]⟩
abbrev S26x84x9x16 : Shape := ⟨4, ![26, 84, 9, 16]⟩
abbrev S1 : Shape := ⟨1, ![1]⟩
abbrev S2 : Shape := ⟨1, ![2]⟩
abbrev S26x84 : Shape := ⟨2, ![26, 84]⟩
abbrev S26x84x144 : Shape := ⟨3, ![26, 84, 144]⟩
abbrev S84x1 : Shape := ⟨2, ![84, 1]⟩
abbrev S26x2x42x144 : Shape := ⟨4, ![26, 2, 42, 144]⟩
abbrev S2x42x59 : Shape := ⟨3, ![2, 42, 59]⟩
abbrev S32x2x42x118 : Shape := ⟨4, ![32, 2, 42, 118]⟩
abbrev S2x9x2048 : Shape := ⟨3, ![2, 9, 2048]⟩
abbrev S2x2x42x118 : Shape := ⟨4, ![2, 2, 42, 118]⟩
abbrev S1x9x2048 : Shape := ⟨3, ![1, 9, 2048]⟩
abbrev S9x2048 : Shape := ⟨2, ![9, 2048]⟩
abbrev S1x2048 : Shape := ⟨2, ![1, 2048]⟩
abbrev S6x2048 : Shape := ⟨2, ![6, 2048]⟩
abbrev S16x2048 : Shape := ⟨2, ![16, 2048]⟩
abbrev S1x42x8 : Shape := ⟨3, ![1, 42, 8]⟩
abbrev S42x8 : Shape := ⟨2, ![42, 8]⟩
abbrev S16x4 : Shape := ⟨2, ![16, 4]⟩
abbrev S16x2044 : Shape := ⟨2, ![16, 2044]⟩
abbrev S16x3 : Shape := ⟨2, ![16, 3]⟩
abbrev S16x2045 : Shape := ⟨2, ![16, 2045]⟩
abbrev S16x2 : Shape := ⟨2, ![16, 2]⟩
abbrev S16x2046 : Shape := ⟨2, ![16, 2046]⟩
abbrev S16x1 : Shape := ⟨2, ![16, 1]⟩
abbrev S16x2047 : Shape := ⟨2, ![16, 2047]⟩
abbrev S144x2048 : Shape := ⟨2, ![144, 2048]⟩
abbrev S1x1x42x144 : Shape := ⟨4, ![1, 1, 42, 144]⟩
abbrev S42x144 : Shape := ⟨2, ![42, 144]⟩
abbrev S42x2048 : Shape := ⟨2, ![42, 2048]⟩
abbrev S42x128 : Shape := ⟨2, ![42, 128]⟩
abbrev S42x1 : Shape := ⟨2, ![42, 1]⟩
abbrev S42 : Shape := ⟨1, ![42]⟩
abbrev S1x128 : Shape := ⟨2, ![1, 128]⟩
abbrev S42x16 : Shape := ⟨2, ![42, 16]⟩
abbrev S1x1x42x16 : Shape := ⟨4, ![1, 1, 42, 16]⟩
abbrev S1x42x6 : Shape := ⟨3, ![1, 42, 6]⟩
abbrev S42x6 : Shape := ⟨2, ![42, 6]⟩
abbrev S16x8 : Shape := ⟨2, ![16, 8]⟩
abbrev S16x2040 : Shape := ⟨2, ![16, 2040]⟩
abbrev S16x6 : Shape := ⟨2, ![16, 6]⟩
abbrev S16x2042 : Shape := ⟨2, ![16, 2042]⟩
abbrev S42x12 : Shape := ⟨2, ![42, 12]⟩
abbrev S1x1x42x12 : Shape := ⟨4, ![1, 1, 42, 12]⟩
abbrev S1x42x2 : Shape := ⟨3, ![1, 42, 2]⟩
abbrev S42x2 : Shape := ⟨2, ![42, 2]⟩
abbrev S16x12 : Shape := ⟨2, ![16, 12]⟩
abbrev S16x2036 : Shape := ⟨2, ![16, 2036]⟩
abbrev S16x9 : Shape := ⟨2, ![16, 9]⟩
abbrev S16x2039 : Shape := ⟨2, ![16, 2039]⟩
abbrev S42x4 : Shape := ⟨2, ![42, 4]⟩
abbrev S1x1x42x4 : Shape := ⟨4, ![1, 1, 42, 4]⟩
abbrev S16x16 : Shape := ⟨2, ![16, 16]⟩
abbrev S16x2032 : Shape := ⟨2, ![16, 2032]⟩
abbrev S1x42x4 : Shape := ⟨3, ![1, 42, 4]⟩
abbrev S16x20 : Shape := ⟨2, ![16, 20]⟩
abbrev S16x2028 : Shape := ⟨2, ![16, 2028]⟩
abbrev S16x15 : Shape := ⟨2, ![16, 15]⟩
abbrev S16x2033 : Shape := ⟨2, ![16, 2033]⟩
abbrev S16x10 : Shape := ⟨2, ![16, 10]⟩
abbrev S16x2038 : Shape := ⟨2, ![16, 2038]⟩
abbrev S16x5 : Shape := ⟨2, ![16, 5]⟩
abbrev S16x2043 : Shape := ⟨2, ![16, 2043]⟩
abbrev S1x1x42x8 : Shape := ⟨4, ![1, 1, 42, 8]⟩
abbrev S16x28 : Shape := ⟨2, ![16, 28]⟩
abbrev S16x2020 : Shape := ⟨2, ![16, 2020]⟩
abbrev S16x21 : Shape := ⟨2, ![16, 21]⟩
abbrev S16x2027 : Shape := ⟨2, ![16, 2027]⟩
abbrev S16x14 : Shape := ⟨2, ![16, 14]⟩
abbrev S16x2034 : Shape := ⟨2, ![16, 2034]⟩
abbrev S16x7 : Shape := ⟨2, ![16, 7]⟩
abbrev S16x2041 : Shape := ⟨2, ![16, 2041]⟩
abbrev S16x32 : Shape := ⟨2, ![16, 32]⟩
abbrev S16x2016 : Shape := ⟨2, ![16, 2016]⟩
abbrev S16x24 : Shape := ⟨2, ![16, 24]⟩
abbrev S16x2024 : Shape := ⟨2, ![16, 2024]⟩
abbrev S16x40 : Shape := ⟨2, ![16, 40]⟩
abbrev S16x2008 : Shape := ⟨2, ![16, 2008]⟩
abbrev S16x30 : Shape := ⟨2, ![16, 30]⟩
abbrev S16x2018 : Shape := ⟨2, ![16, 2018]⟩
abbrev S16x48 : Shape := ⟨2, ![16, 48]⟩
abbrev S16x2000 : Shape := ⟨2, ![16, 2000]⟩
abbrev S16x36 : Shape := ⟨2, ![16, 36]⟩
abbrev S16x2012 : Shape := ⟨2, ![16, 2012]⟩
abbrev S16x56 : Shape := ⟨2, ![16, 56]⟩
abbrev S16x1992 : Shape := ⟨2, ![16, 1992]⟩
abbrev S16x42 : Shape := ⟨2, ![16, 42]⟩
abbrev S16x2006 : Shape := ⟨2, ![16, 2006]⟩
abbrev S16x68 : Shape := ⟨2, ![16, 68]⟩
abbrev S16x1980 : Shape := ⟨2, ![16, 1980]⟩
abbrev S16x51 : Shape := ⟨2, ![16, 51]⟩
abbrev S16x1997 : Shape := ⟨2, ![16, 1997]⟩
abbrev S16x34 : Shape := ⟨2, ![16, 34]⟩
abbrev S16x2014 : Shape := ⟨2, ![16, 2014]⟩
abbrev S16x17 : Shape := ⟨2, ![16, 17]⟩
abbrev S16x2031 : Shape := ⟨2, ![16, 2031]⟩
abbrev S16x80 : Shape := ⟨2, ![16, 80]⟩
abbrev S16x1968 : Shape := ⟨2, ![16, 1968]⟩
abbrev S16x60 : Shape := ⟨2, ![16, 60]⟩
abbrev S16x1988 : Shape := ⟨2, ![16, 1988]⟩
abbrev S16x100 : Shape := ⟨2, ![16, 100]⟩
abbrev S16x1948 : Shape := ⟨2, ![16, 1948]⟩
abbrev S16x75 : Shape := ⟨2, ![16, 75]⟩
abbrev S16x1973 : Shape := ⟨2, ![16, 1973]⟩
abbrev S16x50 : Shape := ⟨2, ![16, 50]⟩
abbrev S16x1998 : Shape := ⟨2, ![16, 1998]⟩
abbrev S16x25 : Shape := ⟨2, ![16, 25]⟩
abbrev S16x2023 : Shape := ⟨2, ![16, 2023]⟩
abbrev S16x116 : Shape := ⟨2, ![16, 116]⟩
abbrev S16x1932 : Shape := ⟨2, ![16, 1932]⟩
abbrev S16x87 : Shape := ⟨2, ![16, 87]⟩
abbrev S16x1961 : Shape := ⟨2, ![16, 1961]⟩
abbrev S16x58 : Shape := ⟨2, ![16, 58]⟩
abbrev S16x1990 : Shape := ⟨2, ![16, 1990]⟩
abbrev S16x29 : Shape := ⟨2, ![16, 29]⟩
abbrev S16x2019 : Shape := ⟨2, ![16, 2019]⟩
abbrev S16x140 : Shape := ⟨2, ![16, 140]⟩
abbrev S16x1908 : Shape := ⟨2, ![16, 1908]⟩
abbrev S16x105 : Shape := ⟨2, ![16, 105]⟩
abbrev S16x1943 : Shape := ⟨2, ![16, 1943]⟩
abbrev S16x70 : Shape := ⟨2, ![16, 70]⟩
abbrev S16x1978 : Shape := ⟨2, ![16, 1978]⟩
abbrev S16x35 : Shape := ⟨2, ![16, 35]⟩
abbrev S16x2013 : Shape := ⟨2, ![16, 2013]⟩
abbrev S16x168 : Shape := ⟨2, ![16, 168]⟩
abbrev S16x1880 : Shape := ⟨2, ![16, 1880]⟩
abbrev S16x126 : Shape := ⟨2, ![16, 126]⟩
abbrev S16x1922 : Shape := ⟨2, ![16, 1922]⟩
abbrev S16x84 : Shape := ⟨2, ![16, 84]⟩
abbrev S16x1964 : Shape := ⟨2, ![16, 1964]⟩
abbrev S16x204 : Shape := ⟨2, ![16, 204]⟩
abbrev S16x1844 : Shape := ⟨2, ![16, 1844]⟩
abbrev S16x153 : Shape := ⟨2, ![16, 153]⟩
abbrev S16x1895 : Shape := ⟨2, ![16, 1895]⟩
abbrev S16x102 : Shape := ⟨2, ![16, 102]⟩
abbrev S16x1946 : Shape := ⟨2, ![16, 1946]⟩
abbrev S16x244 : Shape := ⟨2, ![16, 244]⟩
abbrev S16x1804 : Shape := ⟨2, ![16, 1804]⟩
abbrev S16x183 : Shape := ⟨2, ![16, 183]⟩
abbrev S16x1865 : Shape := ⟨2, ![16, 1865]⟩
abbrev S16x122 : Shape := ⟨2, ![16, 122]⟩
abbrev S16x1926 : Shape := ⟨2, ![16, 1926]⟩
abbrev S16x61 : Shape := ⟨2, ![16, 61]⟩
abbrev S16x1987 : Shape := ⟨2, ![16, 1987]⟩
abbrev S16x292 : Shape := ⟨2, ![16, 292]⟩
abbrev S16x1756 : Shape := ⟨2, ![16, 1756]⟩
abbrev S16x219 : Shape := ⟨2, ![16, 219]⟩
abbrev S16x1829 : Shape := ⟨2, ![16, 1829]⟩
abbrev S16x146 : Shape := ⟨2, ![16, 146]⟩
abbrev S16x1902 : Shape := ⟨2, ![16, 1902]⟩
abbrev S16x73 : Shape := ⟨2, ![16, 73]⟩
abbrev S16x1975 : Shape := ⟨2, ![16, 1975]⟩
abbrev S16x348 : Shape := ⟨2, ![16, 348]⟩
abbrev S16x1700 : Shape := ⟨2, ![16, 1700]⟩
abbrev S16x261 : Shape := ⟨2, ![16, 261]⟩
abbrev S16x1787 : Shape := ⟨2, ![16, 1787]⟩
abbrev S16x174 : Shape := ⟨2, ![16, 174]⟩
abbrev S16x1874 : Shape := ⟨2, ![16, 1874]⟩
abbrev S16x416 : Shape := ⟨2, ![16, 416]⟩
abbrev S16x1632 : Shape := ⟨2, ![16, 1632]⟩
abbrev S16x312 : Shape := ⟨2, ![16, 312]⟩
abbrev S16x1736 : Shape := ⟨2, ![16, 1736]⟩
abbrev S16x208 : Shape := ⟨2, ![16, 208]⟩
abbrev S16x1840 : Shape := ⟨2, ![16, 1840]⟩
abbrev S16x104 : Shape := ⟨2, ![16, 104]⟩
abbrev S16x1944 : Shape := ⟨2, ![16, 1944]⟩
abbrev S1x42x1 : Shape := ⟨3, ![1, 42, 1]⟩
abbrev S16x500 : Shape := ⟨2, ![16, 500]⟩
abbrev S16x1548 : Shape := ⟨2, ![16, 1548]⟩
abbrev S16x375 : Shape := ⟨2, ![16, 375]⟩
abbrev S16x1673 : Shape := ⟨2, ![16, 1673]⟩
abbrev S16x250 : Shape := ⟨2, ![16, 250]⟩
abbrev S16x1798 : Shape := ⟨2, ![16, 1798]⟩
abbrev S16x125 : Shape := ⟨2, ![16, 125]⟩
abbrev S16x1923 : Shape := ⟨2, ![16, 1923]⟩
abbrev S1x1x42x2 : Shape := ⟨4, ![1, 1, 42, 2]⟩
abbrev S16x596 : Shape := ⟨2, ![16, 596]⟩
abbrev S16x1452 : Shape := ⟨2, ![16, 1452]⟩
abbrev S16x447 : Shape := ⟨2, ![16, 447]⟩
abbrev S16x1601 : Shape := ⟨2, ![16, 1601]⟩
abbrev S16x298 : Shape := ⟨2, ![16, 298]⟩
abbrev S16x1750 : Shape := ⟨2, ![16, 1750]⟩
abbrev S16x149 : Shape := ⟨2, ![16, 149]⟩
abbrev S16x1899 : Shape := ⟨2, ![16, 1899]⟩
abbrev S16x712 : Shape := ⟨2, ![16, 712]⟩
abbrev S16x1336 : Shape := ⟨2, ![16, 1336]⟩
abbrev S16x534 : Shape := ⟨2, ![16, 534]⟩
abbrev S16x1514 : Shape := ⟨2, ![16, 1514]⟩
abbrev S16x356 : Shape := ⟨2, ![16, 356]⟩
abbrev S16x1692 : Shape := ⟨2, ![16, 1692]⟩
abbrev S16x178 : Shape := ⟨2, ![16, 178]⟩
abbrev S16x1870 : Shape := ⟨2, ![16, 1870]⟩
abbrev S16x852 : Shape := ⟨2, ![16, 852]⟩
abbrev S16x1196 : Shape := ⟨2, ![16, 1196]⟩
abbrev S16x639 : Shape := ⟨2, ![16, 639]⟩
abbrev S16x1409 : Shape := ⟨2, ![16, 1409]⟩
abbrev S16x426 : Shape := ⟨2, ![16, 426]⟩
abbrev S16x1622 : Shape := ⟨2, ![16, 1622]⟩
abbrev S16x213 : Shape := ⟨2, ![16, 213]⟩
abbrev S16x1835 : Shape := ⟨2, ![16, 1835]⟩
abbrev S16x1020 : Shape := ⟨2, ![16, 1020]⟩
abbrev S16x1028 : Shape := ⟨2, ![16, 1028]⟩
abbrev S16x765 : Shape := ⟨2, ![16, 765]⟩
abbrev S16x1283 : Shape := ⟨2, ![16, 1283]⟩
abbrev S16x510 : Shape := ⟨2, ![16, 510]⟩
abbrev S16x1538 : Shape := ⟨2, ![16, 1538]⟩
abbrev S16x255 : Shape := ⟨2, ![16, 255]⟩
abbrev S16x1793 : Shape := ⟨2, ![16, 1793]⟩
abbrev S32x9912 : Shape := ⟨2, ![32, 9912]⟩
abbrev S9912x1 : Shape := ⟨2, ![9912, 1]⟩

abbrev nBuf : Space → Nat
  | .hbm => 59
  | .vmem => 6
  | .smem => 0
  | _ => 0

abbrev bufTy : (tb : Table) → Fin (tcTables nBuf tb) → BufTy
  | .hbm, ⟨0, _⟩ => ⟨S32x9x2048, .f32⟩
  | .hbm, ⟨1, _⟩ => ⟨S756x1x9, .f32⟩
  | .hbm, ⟨2, _⟩ => ⟨S26x9x84, .f32⟩
  | .hbm, ⟨3, _⟩ => ⟨S84x59, .f32⟩
  | .hbm, ⟨4, _⟩ => ⟨S84, .i32⟩
  | .hbm, ⟨5, _⟩ => ⟨S84, .i32⟩
  | .hbm, ⟨6, _⟩ => ⟨S9912, .i32⟩
  | .hbm, ⟨7, _⟩ => ⟨S84x1x9, .f32⟩
  | .hbm, ⟨8, _⟩ => ⟨S84x9, .f32⟩
  | .hbm, ⟨9, _⟩ => ⟨S26x84x9, .f32⟩
  | .hbm, ⟨10, _⟩ => ⟨S1x84x9x1, .f32⟩
  | .hbm, ⟨11, _⟩ => ⟨S26x84x1x9, .f32⟩
  | .hbm, ⟨12, _⟩ => ⟨S26x84x9x9, .f32⟩
  | .hbm, ⟨13, _⟩ => ⟨S26x84x9x9, .f32⟩
  | .hbm, ⟨14, _⟩ => ⟨S26x84x9x9, .f32⟩
  | .hbm, ⟨15, _⟩ => ⟨S_, .i32⟩
  | .hbm, ⟨16, _⟩ => ⟨S_, .f32⟩
  | .hbm, ⟨17, _⟩ => ⟨S26x84x9x16, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S_, .f32⟩
  | .hbm, ⟨24, _⟩ => ⟨S26x84, .f32⟩
  | .hbm, ⟨25, _⟩ => ⟨S26x84x9x16, .f32⟩
  | .hbm, ⟨26, _⟩ => ⟨S26x84x144, .f32⟩
  | .hbm, ⟨27, _⟩ => ⟨S_, .i32⟩
  | .hbm, ⟨28, _⟩ => ⟨S84, .i32⟩
  | .hbm, ⟨29, _⟩ => ⟨S84, .i1⟩
  | .hbm, ⟨30, _⟩ => ⟨S_, .i32⟩
  | .hbm, ⟨31, _⟩ => ⟨S84, .i32⟩
  | .hbm, ⟨32, _⟩ => ⟨S84, .i32⟩
  | .hbm, ⟨33, _⟩ => ⟨S84, .i32⟩
  | .hbm, ⟨34, _⟩ => ⟨S84x1, .i32⟩
  | .hbm, ⟨35, _⟩ => ⟨S26x84x144, .f32⟩
  | .hbm, ⟨36, _⟩ => ⟨S26x2x42x144, .f32⟩
  | .hbm, ⟨37, _⟩ => ⟨S26x2x42x144, .bf16⟩
  | .hbm, ⟨38, _⟩ => ⟨S_, .i32⟩
  | .hbm, ⟨39, _⟩ => ⟨S84, .i32⟩
  | .hbm, ⟨40, _⟩ => ⟨S84, .i1⟩
  | .hbm, ⟨41, _⟩ => ⟨S_, .i32⟩
  | .hbm, ⟨42, _⟩ => ⟨S84, .i32⟩
  | .hbm, ⟨43, _⟩ => ⟨S84, .i32⟩
  | .hbm, ⟨44, _⟩ => ⟨S84, .i32⟩
  | .hbm, ⟨45, _⟩ => ⟨S84x1, .i32⟩
  | .hbm, ⟨46, _⟩ => ⟨S84x59, .f32⟩
  | .hbm, ⟨47, _⟩ => ⟨S2x42x59, .f32⟩
  | .hbm, ⟨48, _⟩ => ⟨S32x2x42x118, .f32⟩
  | .hbm, ⟨49, _⟩ => ⟨S32x9912, .f32⟩
  | .hbm, ⟨50, _⟩ => ⟨S_, .i32⟩
  | .hbm, ⟨51, _⟩ => ⟨S9912, .i32⟩
  | .hbm, ⟨52, _⟩ => ⟨S9912, .i1⟩
  | .hbm, ⟨53, _⟩ => ⟨S_, .i32⟩
  | .hbm, ⟨54, _⟩ => ⟨S9912, .i32⟩
  | .hbm, ⟨55, _⟩ => ⟨S9912, .i32⟩
  | .hbm, ⟨56, _⟩ => ⟨S9912, .i32⟩
  | .hbm, ⟨57, _⟩ => ⟨S9912x1, .i32⟩
  | .hbm, ⟨58, _⟩ => ⟨S32x9912, .f32⟩
  | .local _ .vmem, ⟨0, _⟩ => ⟨S2x9x2048, .f32⟩
  | .local _ .vmem, ⟨1, _⟩ => ⟨S2x9x2048, .f32⟩
  | .local _ .vmem, ⟨2, _⟩ => ⟨S26x2x42x144, .bf16⟩
  | .local _ .vmem, ⟨3, _⟩ => ⟨S2x42x59, .f32⟩
  | .local _ .vmem, ⟨4, _⟩ => ⟨S2x2x42x118, .f32⟩
  | .local _ .vmem, ⟨5, _⟩ => ⟨S2x2x42x118, .f32⟩
  | _, _ => ⟨S32x9x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_call0_v0 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_v16 : Ref sig .tc := ⟨.hbm, 29, rfl⟩
abbrev main_c_6 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_7 : Ref sig .tc := ⟨.hbm, 38, rfl⟩
abbrev main_v24 : Ref sig .tc := ⟨.hbm, 39, rfl⟩
abbrev main_v25 : Ref sig .tc := ⟨.hbm, 40, rfl⟩
abbrev main_c_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_9 : Ref sig .tc := ⟨.hbm, 50, rfl⟩
abbrev main_v34 : Ref sig .tc := ⟨.hbm, 51, rfl⟩
abbrev main_v35 : Ref sig .tc := ⟨.hbm, 52, rfl⟩
abbrev main_c_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x9x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S26x2x42x144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x42x59 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x2x42x118 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv_1048" => some ((1048⁻¹ : ℝ) : EReal)
  | "inv_1216" => some ((1216⁻¹ : ℝ) : EReal)
  | "inv_1352" => some ((1352⁻¹ : ℝ) : EReal)
  | "inv_1464" => some ((1464⁻¹ : ℝ) : EReal)
  | "inv_1560" => some ((1560⁻¹ : ℝ) : EReal)
  | "inv_1640" => some ((1640⁻¹ : ℝ) : EReal)
  | "inv_1712" => some ((1712⁻¹ : ℝ) : EReal)
  | "inv_1768" => some ((1768⁻¹ : ℝ) : EReal)
  | "inv_1816" => some ((1816⁻¹ : ℝ) : EReal)
  | "inv_1848" => some ((1848⁻¹ : ℝ) : EReal)
  | "inv_1888" => some ((1888⁻¹ : ℝ) : EReal)
  | "inv_1912" => some ((1912⁻¹ : ℝ) : EReal)
  | "inv_1936" => some ((1936⁻¹ : ℝ) : EReal)
  | "inv_1952" => some ((1952⁻¹ : ℝ) : EReal)
  | "inv_1968" => some ((1968⁻¹ : ℝ) : EReal)
  | "inv_1984" => some ((1984⁻¹ : ℝ) : EReal)
  | "inv_2008" => some ((2008⁻¹ : ℝ) : EReal)
  | "inv_2016" => some ((2016⁻¹ : ℝ) : EReal)
  | "inv_2032" => some ((2032⁻¹ : ℝ) : EReal)
  | "inv_344" => some ((344⁻¹ : ℝ) : EReal)
  | "inv_624" => some ((624⁻¹ : ℝ) : EReal)
  | "inv_856" => some ((856⁻¹ : ℝ) : EReal)
  | _ => none
-- ==== ReferenceIdeal.lean ====
abbrev S32x9x2048 : Shape := ⟨3, ![32, 9, 2048]⟩
abbrev S756x1x9 : Shape := ⟨3, ![756, 1, 9]⟩
abbrev S26x9x84 : Shape := ⟨3, ![26, 9, 84]⟩
abbrev S84x59 : Shape := ⟨2, ![84, 59]⟩
abbrev S26x9 : Shape := ⟨2, ![26, 9]⟩
abbrev S59 : Shape := ⟨1, ![59]⟩
abbrev S9912 : Shape := ⟨1, ![9912]⟩
abbrev S_ : Shape := ⟨0, ![]⟩
abbrev S32x9x4088 : Shape := ⟨3, ![32, 9, 4088]⟩
abbrev S26x9x1 : Shape := ⟨3, ![26, 9, 1]⟩
abbrev S2048 : Shape := ⟨1, ![2048]⟩
abbrev S1x1x2048 : Shape := ⟨3, ![1, 1, 2048]⟩
abbrev S26x9x2048 : Shape := ⟨3, ![26, 9, 2048]⟩
abbrev S26x9x2048x1 : Shape := ⟨4, ![26, 9, 2048, 1]⟩
abbrev S32x9x26x9x2048 : Shape := ⟨5, ![32, 9, 26, 9, 2048]⟩
abbrev S9x84x9 : Shape := ⟨3, ![9, 84, 9]⟩
abbrev S9x84x32x26x2048 : Shape := ⟨5, ![9, 84, 32, 26, 2048]⟩
abbrev S32x26x9x84x2048 : Shape := ⟨5, ![32, 26, 9, 84, 2048]⟩
abbrev S26x84x32x2048 : Shape := ⟨4, ![26, 84, 32, 2048]⟩
abbrev S26x32x84x2048 : Shape := ⟨4, ![26, 32, 84, 2048]⟩
abbrev S59x1 : Shape := ⟨2, ![59, 1]⟩
abbrev S59x32x84x2048 : Shape := ⟨4, ![59, 32, 84, 2048]⟩
abbrev S59x1x1 : Shape := ⟨3, ![59, 1, 1]⟩
abbrev S84 : Shape := ⟨1, ![84]⟩
abbrev S1x84x1 : Shape := ⟨3, ![1, 84, 1]⟩
abbrev S59x84x1 : Shape := ⟨3, ![59, 84, 1]⟩
abbrev S59x1x2048 : Shape := ⟨3, ![59, 1, 2048]⟩
abbrev S59x84x2048 : Shape := ⟨3, ![59, 84, 2048]⟩
abbrev S59x1x84x2048 : Shape := ⟨4, ![59, 1, 84, 2048]⟩
abbrev S59x84 : Shape := ⟨2, ![59, 84]⟩
abbrev S59x1x84 : Shape := ⟨3, ![59, 1, 84]⟩
abbrev S59x1x84x1 : Shape := ⟨4, ![59, 1, 84, 1]⟩
abbrev S59x32x84 : Shape := ⟨3, ![59, 32, 84]⟩
abbrev S32x84x59 : Shape := ⟨3, ![32, 84, 59]⟩
abbrev S32x4956 : Shape := ⟨2, ![32, 4956]⟩
abbrev S32x9912 : Shape := ⟨2, ![32, 9912]⟩
abbrev S9912x1 : Shape := ⟨2, ![9912, 1]⟩

abbrev nBuf : Space → Nat
  | .hbm => 136
  | .vmem => 0
  | .smem => 0
  | _ => 0

abbrev hbmTy0_0 (i : Nat) : BufTy := match i % 128 with
  | 0 => ⟨S32x9x2048, .f32⟩
  | 1 => ⟨S756x1x9, .f32⟩
  | 2 => ⟨S26x9x84, .f32⟩
  | 3 => ⟨S84x59, .f32⟩
  | 4 => ⟨S26x9, .i32⟩
  | 5 => ⟨S59, .i32⟩
  | 6 => ⟨S59, .i32⟩
  | 7 => ⟨S59, .i32⟩
  | 8 => ⟨S9912, .i32⟩
  | 9 => ⟨S_, .i32⟩
  | 10 => ⟨S_, .f32⟩
  | 11 => ⟨S32x9x4088, .f32⟩
  | 12 => ⟨S26x9x1, .i32⟩
  | 13 => ⟨S2048, .i32⟩
  | 14 => ⟨S1x1x2048, .i32⟩
  | 15 => ⟨S26x9x2048, .i32⟩
  | 16 => ⟨S26x9x2048, .i32⟩
  | 17 => ⟨S26x9x2048, .i32⟩
  | 18 => ⟨S_, .i32⟩
  | 19 => ⟨S26x9x2048, .i32⟩
  | 20 => ⟨S26x9x2048, .i1⟩
  | 21 => ⟨S_, .i32⟩
  | 22 => ⟨S26x9x2048, .i32⟩
  | 23 => ⟨S26x9x2048, .i32⟩
  | 24 => ⟨S26x9x2048, .i32⟩
  | 25 => ⟨S26x9x2048x1, .i32⟩
  | 26 => ⟨S32x9x26x9x2048, .f32⟩
  | 27 => ⟨S9x84x9, .f32⟩
  | 28 => ⟨S9x84x32x26x2048, .f32⟩
  | 29 => ⟨S32x26x9x84x2048, .f32⟩
  | 30 => ⟨S26x84x32x2048, .f32⟩
  | 31 => ⟨S26x32x84x2048, .f32⟩
  | 32 => ⟨S_, .i32⟩
  | 33 => ⟨S59, .i32⟩
  | 34 => ⟨S59, .i1⟩
  | 35 => ⟨S_, .i32⟩
  | 36 => ⟨S59, .i32⟩
  | 37 => ⟨S59, .i32⟩
  | 38 => ⟨S59, .i32⟩
  | 39 => ⟨S59x1, .i32⟩
  | 40 => ⟨S59x32x84x2048, .f32⟩
  | 41 => ⟨S59x1x1, .i32⟩
  | 42 => ⟨S59x1x1, .i32⟩
  | 43 => ⟨S84, .i32⟩
  | 44 => ⟨S1x84x1, .i32⟩
  | 45 => ⟨S2048, .i32⟩
  | 46 => ⟨S1x1x2048, .i32⟩
  | 47 => ⟨S_, .i32⟩
  | 48 => ⟨S1x84x1, .i32⟩
  | 49 => ⟨S1x84x1, .i32⟩
  | 50 => ⟨S59x84x1, .i32⟩
  | 51 => ⟨S59x84x1, .i32⟩
  | 52 => ⟨S59x84x1, .i1⟩
  | 53 => ⟨S59x1x2048, .i32⟩
  | 54 => ⟨S59x1x2048, .i32⟩
  | 55 => ⟨S59x1x2048, .i1⟩
  | 56 => ⟨S_, .i32⟩
  | 57 => ⟨S59x1x1, .i32⟩
  | 58 => ⟨S59x1x1, .i32⟩
  | 59 => ⟨S59x1x2048, .i32⟩
  | 60 => ⟨S59x1x2048, .i32⟩
  | 61 => ⟨S59x1x2048, .i1⟩
  | 62 => ⟨S59x1x2048, .i1⟩
  | 63 => ⟨S59x84x2048, .i1⟩
  | 64 => ⟨S59x84x2048, .i1⟩
  | 65 => ⟨S59x84x2048, .i1⟩
  | 66 => ⟨S59x1x84x2048, .i1⟩
  | 67 => ⟨S_, .i32⟩
  | 68 => ⟨S59x1x1, .i32⟩
  | 69 => ⟨S59x1x1, .i32⟩
  | 70 => ⟨S_, .i32⟩
  | 71 => ⟨S59x1x1, .i32⟩
  | 72 => ⟨S59x1x1, .i32⟩
  | 73 => ⟨S_, .i32⟩
  | 74 => ⟨S_, .i32⟩
  | 75 => ⟨S59x84x1, .i32⟩
  | 76 => ⟨S59x84x1, .i32⟩
  | 77 => ⟨S59x84x1, .i32⟩
  | 78 => ⟨S59x84x1, .f32⟩
  | 79 => ⟨S59x84, .f32⟩
  | 80 => ⟨S59x1x84, .f32⟩
  | 81 => ⟨S59x84, .f32⟩
  | 82 => ⟨S59x1x84x1, .f32⟩
  | 83 => ⟨S59x32x84x2048, .f32⟩
  | 84 => ⟨S59x32x84x2048, .f32⟩
  | 85 => ⟨S_, .f32⟩
  | 86 => ⟨S59x32x84x2048, .f32⟩
  | 87 => ⟨S59x32x84x2048, .i1⟩
  | 88 => ⟨S59x32x84x2048, .i1⟩
  | 89 => ⟨S59x32x84x2048, .i1⟩
  | 90 => ⟨S_, .f32⟩
  | 91 => ⟨S_, .f32⟩
  | 92 => ⟨S59x32x84x2048, .f32⟩
  | 93 => ⟨S59x32x84x2048, .f32⟩
  | 94 => ⟨S59x32x84x2048, .f32⟩
  | 95 => ⟨S59x32x84x2048, .f32⟩
  | 96 => ⟨S_, .f32⟩
  | 97 => ⟨S59x32x84, .f32⟩
  | 98 => ⟨S_, .f32⟩
  | 99 => ⟨S59x32x84x2048, .f32⟩
  | 100 => ⟨S59x32x84x2048, .f32⟩
  | 101 => ⟨S_, .f32⟩
  | 102 => ⟨S_, .f32⟩
  | 103 => ⟨S59x32x84x2048, .i1⟩
  | 104 => ⟨S59x32x84x2048, .f32⟩
  | 105 => ⟨S59x32x84x2048, .f32⟩
  | 106 => ⟨S_, .f32⟩
  | 107 => ⟨S59x32x84, .f32⟩
  | 108 => ⟨S59x32x84x2048, .f32⟩
  | 109 => ⟨S_, .f32⟩
  | 110 => ⟨S_, .f32⟩
  | 111 => ⟨S59x32x84x2048, .i1⟩
  | 112 => ⟨S59x32x84x2048, .f32⟩
  | 113 => ⟨S59x32x84x2048, .f32⟩
  | 114 => ⟨S_, .f32⟩
  | 115 => ⟨S59x32x84, .f32⟩
  | 116 => ⟨S59x32x84, .f32⟩
  | 117 => ⟨S59x32x84, .f32⟩
  | 118 => ⟨S32x84x59, .f32⟩
  | 119 => ⟨S_, .f32⟩
  | 120 => ⟨S59x32x84, .f32⟩
  | 121 => ⟨S59x32x84, .f32⟩
  | 122 => ⟨S59x32x84, .f32⟩
  | 123 => ⟨S32x84x59, .f32⟩
  | 124 => ⟨S32x4956, .f32⟩
  | 125 => ⟨S32x4956, .f32⟩
  | 126 => ⟨S32x9912, .f32⟩
  | 127 => ⟨S_, .i32⟩
  | _ => ⟨S32x9x2048, .f32⟩

abbrev hbmTy0_1 (i : Nat) : BufTy := match i % 128 with
  | 0 => ⟨S9912, .i32⟩
  | 1 => ⟨S9912, .i1⟩
  | 2 => ⟨S_, .i32⟩
  | 3 => ⟨S9912, .i32⟩
  | 4 => ⟨S9912, .i32⟩
  | 5 => ⟨S9912, .i32⟩
  | 6 => ⟨S9912x1, .i32⟩
  | 7 => ⟨S32x9912, .f32⟩
  | _ => ⟨S32x9x2048, .f32⟩

abbrev hbmTy (i : Nat) : BufTy := match i / 128 with
  | 0 => hbmTy0_0 i
  | 1 => hbmTy0_1 i
  | _ => ⟨S32x9x2048, .f32⟩

abbrev bufTy : (tb : Table) → Fin (tcTables nBuf tb) → BufTy
  | .hbm, ⟨i, _⟩ => hbmTy i
  | _, _ => ⟨S32x9x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_5 : Ref sig .tc := ⟨.hbm, 18, rfl⟩
abbrev main_v7 : Ref sig .tc := ⟨.hbm, 19, rfl⟩
abbrev main_v8 : Ref sig .tc := ⟨.hbm, 20, rfl⟩
abbrev main_c_6 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_7 : Ref sig .tc := ⟨.hbm, 32, rfl⟩
abbrev main_v19 : Ref sig .tc := ⟨.hbm, 33, rfl⟩
abbrev main_v20 : Ref sig .tc := ⟨.hbm, 34, rfl⟩
abbrev main_c_8 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_11 : Ref sig .tc := ⟨.hbm, 67, rfl⟩
abbrev main_v50 : Ref sig .tc := ⟨.hbm, 68, rfl⟩
abbrev main_v51 : Ref sig .tc := ⟨.hbm, 69, rfl⟩
abbrev main_c_12 : Ref sig .tc := ⟨.hbm, 70, rfl⟩
abbrev main_v52 : Ref sig .tc := ⟨.hbm, 71, rfl⟩
abbrev main_v53 : Ref sig .tc := ⟨.hbm, 72, rfl⟩
abbrev main_c_13 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_14 : Ref sig .tc := ⟨.hbm, 90, rfl⟩
abbrev main_cst_15 : Ref sig .tc := ⟨.hbm, 91, rfl⟩
abbrev main_call2_v0 : Ref sig .tc := ⟨.hbm, 92, rfl⟩
abbrev main_call2_v1 : Ref sig .tc := ⟨.hbm, 93, rfl⟩
abbrev main_v66 : Ref sig .tc := ⟨.hbm, 94, rfl⟩
abbrev main_v67 : Ref sig .tc := ⟨.hbm, 95, rfl⟩
abbrev main_cst_16 : Ref sig .tc := ⟨.hbm, 96, rfl⟩
abbrev main_v68 : Ref sig .tc := ⟨.hbm, 97, rfl⟩
abbrev main_call3_cst : Ref sig .tc := ⟨.hbm, 98, rfl⟩
abbrev main_call3_v0 : Ref sig .tc := ⟨.hbm, 99, rfl⟩
abbrev main_v69 : Ref sig .tc := ⟨.hbm, 100, rfl⟩
abbrev main_cst_17 : Ref sig .tc := ⟨.hbm, 101, rfl⟩
abbrev main_call4_v0 : Ref sig .tc := ⟨.hbm, 102, rfl⟩
abbrev main_call4_v1 : Ref sig .tc := ⟨.hbm, 103, rfl⟩
abbrev main_call4_v2 : Ref sig .tc := ⟨.hbm, 104, rfl⟩
abbrev main_v70 : Ref sig .tc := ⟨.hbm, 105, rfl⟩
abbrev main_cst_18 : Ref sig .tc := ⟨.hbm, 106, rfl⟩
abbrev main_v71 : Ref sig .tc := ⟨.hbm, 107, rfl⟩
abbrev main_v72 : Ref sig .tc := ⟨.hbm, 108, rfl⟩
abbrev main_cst_19 : Ref sig .tc := ⟨.hbm, 109, rfl⟩
abbrev main_call5_v0 : Ref sig .tc := ⟨.hbm, 110, rfl⟩
abbrev main_call5_v1 : Ref sig .tc := ⟨.hbm, 111, rfl⟩
abbrev main_call5_v2 : Ref sig .tc := ⟨.hbm, 112, rfl⟩
abbrev main_v73 : Ref sig .tc := ⟨.hbm, 113, rfl⟩
abbrev main_cst_20 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_21 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_c_22 : Ref sig .tc := ⟨.hbm, 127, rfl⟩
abbrev main_v85 : Ref sig .tc := ⟨.hbm, 128, rfl⟩
abbrev main_v86 : Ref sig .tc := ⟨.hbm, 129, rfl⟩
abbrev main_c_23 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩

abbrev nD : Nat := 1
abbrev τ : Topo := Topo.v7x

variable {F : FTy → Type} [FloatOps F]
-- ==== Proof.Feat.Unit.lean ====
/- The kernel's body as a function of one dilation: what one store of the body writes, for the dilation's spacing, its
   number of biases and the range of positions that it pools over. Every operation is the printed one. -/
module

public import proofs.«01_k».proof.Proof.Gen.KernelIdeal

@[expose] public section

noncomputable section

namespace Cert.Feat

open Cert.KernelIdeal Cert.KernelIdeal.Gen Idealize.ShloMosaic Idealize.ShloMosaic.TcCoe Idealize.SL.Sem

variable {F : FTy → Type} [FloatOps F] [Named F]

/-- A matrix's shape. -/
abbrev Sh (a b : Nat) : Shape := ⟨2, ![a, b]⟩

theorem slices2 {a b a' b' o p : Nat} (h0 : o + a' ≤ a) (h1 : p + b' ≤ b) : (Sh a b).Slices ![o, p] (Sh a' b') :=
  ⟨rfl, fun x => by
    match x with
    | ⟨0, _⟩ => exact h0
    | ⟨1, _⟩ => exact h1⟩

theorem concat2 {a b c t : Nat} (h : b + c = t) : Shape.Concatenates [Sh a b, Sh a c] (Sh a t) (1 : Fin 2) :=
  ⟨le_refl 2, fun s hs => by
    have : s = Sh a b ∨ s = Sh a c := by simpa using hs
    rcases this with rfl | rfl <;> exact ⟨rfl, fun x hx => by
      match x with
      | ⟨0, _⟩ => rfl
      | ⟨1, _⟩ => exact absurd rfl hx⟩, by
    subst h; simp [Sh]⟩

/-- How the share of positive positions is formed from their count. -/
inductive Share where
  | word (w : BitVec 32)
  | name (s : String) (w : BitVec 32)
  | quot (w : BitVec 32)

/-- A dilation: its place, its spacing, its number of biases and their place, the length that the cropped half pools
    over as a float's word, and how that half forms the share. -/
structure Dil where
  i : Nat
  d : Nat
  nf : Nat
  off : Nat
  len : BitVec 32
  sh : Share
  hi : i < 26
  hd : 8 * d ≤ 2040
  hnf : 1 ≤ nf
  hoff : off + nf ≤ 59

/-! ## The stacked shifts and the combined convolution -/

/-- A block's nine channels at bf16, a row of ones and six of zeros. -/
def rows (v : Vec F S1x9x2048 .f32) : FVec F S16x2048 .bf16 :=
  concatenate S16x2048 0 [⟨S9x2048, truncf .bf16 (shapeCast S9x2048 v shapeCasts_S1x9x2048_S9x2048) bitsLt_bf16_f32⟩,
    ⟨S1x2048, broadcast S1x2048 (Scalar.ofBits .bf16 0x3F80#16)⟩,
    ⟨S6x2048, broadcast S6x2048 (Scalar.ofBits .bf16 0x0000#16)⟩] concatenates_S9x2048_S1x2048_S6x2048_S16x2048_d0

/-- The rows moved `o` to the right, zeros before them, -/
def shr (x : FVec F S16x2048 .bf16) (o : Nat) (ho : o ≤ 2048) : FVec F S16x2048 .bf16 :=
  concatenate S16x2048 1 [⟨Sh 16 o, broadcast (Sh 16 o) (Scalar.ofBits .bf16 0x0000#16)⟩,
    ⟨Sh 16 (2048 - o), extractStridedSlice (Sh 16 (2048 - o)) ![0, 0] x (slices2 (by omega) (by omega))⟩]
    (concat2 (by omega))

/-- and to the left, zeros after them. -/
def shl (x : FVec F S16x2048 .bf16) (o : Nat) (ho : o ≤ 2048) : FVec F S16x2048 .bf16 :=
  concatenate S16x2048 1 [
    ⟨Sh 16 (2048 - o), extractStridedSlice (Sh 16 (2048 - o)) ![0, o] x (slices2 (by omega) (by omega))⟩,
    ⟨Sh 16 o, broadcast (Sh 16 o) (Scalar.ofBits .bf16 0x0000#16)⟩]
    (concat2 (by omega))

/-- The nine shifts, one under the other. -/
def stack (x : FVec F S16x2048 .bf16) (d : Nat) (hd : 8 * d ≤ 2040) : FVec F S144x2048 .bf16 :=
  concatenate S144x2048 0 [⟨S16x2048, shr x (4 * d) (by omega)⟩, ⟨S16x2048, shr x (3 * d) (by omega)⟩,
    ⟨S16x2048, shr x (2 * d) (by omega)⟩, ⟨S16x2048, shr x (1 * d) (by omega)⟩, ⟨S16x2048, x⟩,
    ⟨S16x2048, shl x (1 * d) (by omega)⟩, ⟨S16x2048, shl x (2 * d) (by omega)⟩, ⟨S16x2048, shl x (3 * d) (by omega)⟩,
    ⟨S16x2048, shl x (4 * d) (by omega)⟩]
    concatenates_S16x2048_S16x2048_S16x2048_S16x2048_S16x2048_S16x2048_S16x2048_S16x2048_S16x2048_S144x2048_d0

/-- The combined convolution of one half of the filters, every entry raised by the packing constant. -/
def conv (w : Vec F S1x1x42x144 .bf16) (xs : FVec F S144x2048 .bf16) : FVec F S42x2048 .f32 :=
  matmul dot_S42x144_S144x2048_S42x2048_1_0_0_1_n_n none (shapeCast S42x144 w shapeCasts_S1x1x42x144_S42x144) xs
    (constant S42x2048 .f32 0x00000000#32)

/-! ## The pooled sums, chunk by chunk -/

def zeros : FVec F S42x128 .f32 := broadcast S42x128 (Scalar.ofBits .f32 0x00000000#32)

def chunk (C : FVec F S42x2048 .f32) (j : Nat) : FVec F S42x128 .f32 :=
  if h : 128 * j + 128 ≤ 2048 then extractStridedSlice S42x128 ![0, 128 * j] C (slices2 (le_refl 42) h) else zeros

/-- Which lanes of chunk `j` lie in `[lo, hi)`. -/
def lanes (lo hi j : Nat) : IVec S1x128 1 :=
  andi (cmpi .sge (iota .tc S1x128 32 [1] iota_S1x128_d1_w32) (broadcast S1x128 (BitVec.ofInt 32 ((lo : Int) - 128 * j))))
    (cmpi .slt (iota .tc S1x128 32 [1] iota_S1x128_d1_w32) (broadcast S1x128 (BitVec.ofInt 32 ((hi : Int) - 128 * j))))

def whole (lo hi j : Nat) : Bool := Nat.ble lo (128 * j) && Nat.ble (128 * j + 128) hi

/-- What chunk `j` adds to the plain total, -/
def totTerm (C : FVec F S42x2048 .f32) (lo hi j : Nat) : FVec F S42x128 .f32 :=
  bif whole lo hi j then chunk C j
  else select (broadcastTo S42x128 (shapeCast S1x128 (lanes lo hi j) shapeCasts_S1x128_S1x128) broadcasts_S1x128_S42x128)
    (chunk C j) zeros

/-- and to the total over the positions above `b`. -/
def posTerm (C : FVec F S42x2048 .f32) (b : FVec F S42x1 .f32) (lo hi j : Nat) : FVec F S42x128 .f32 :=
  select (bif whole lo hi j then cmpf .ogt (chunk C j) (broadcastTo S42x128 b broadcasts_S42x1_S42x128)
    else andi (cmpf .ogt (chunk C j) (broadcastTo S42x128 b broadcasts_S42x1_S42x128))
      (broadcastTo S42x128 (lanes lo hi j) broadcasts_S1x128_S42x128)) (chunk C j) zeros

/-- The lane sums of the first `n` terms from chunk `j0` on. -/
def lanesum (t : Nat → FVec F S42x128 .f32) (j0 n : Nat) : FVec F S42x128 .f32 :=
  Nat.rec zeros (fun k ih => addf ih (t (j0 + k))) n

/-- A lane sum's count of packing constants, -/
def packs (a : FVec F S42x128 .f32) : FVec F S42x128 .f32 :=
  roundeven (mulf a (broadcast S42x128 (Scalar.ofBits .f32 0x39000000#32)))

/-- what is left without them, -/
def rest (a : FVec F S42x128 .f32) : FVec F S42x128 .f32 :=
  subf a (mulf (packs a) (broadcast S42x128 (Scalar.ofBits .f32 0x46000000#32)))

/-- and the sum of the lanes. -/
def total (v : FVec F S42x128 .f32) : FVec F S42x1 .f32 :=
  shapeCast S42x1 (multiReduction .add [1] S42 v 0x00000000#32 reduces_S42x128_S42 (.inl rfl) rfl) shapeCasts_S42_S42x1

def word1 (w : BitVec 32) : FVec F S42x1 .f32 := broadcast S42x1 (Scalar.ofBits .f32 w)

/-- A bias column: of one bias alone it is the biases. -/
def col : {nf : Nat} → FVec F (Sh 42 nf) .f32 → Nat → FVec F S42x1 .f32
  | 1, b, _ => b
  | nf, b, f => if h : f + 1 ≤ nf then extractStridedSlice S42x1 ![0, f] b (slices2 (le_refl 42) h) else word1 0#32

/-- The lane sums of one bias's positive positions. -/
def accPos {nf : Nat} (C : FVec F S42x2048 .f32) (b : FVec F (Sh 42 nf) .f32) (lo hi f : Nat) : FVec F S42x128 .f32 :=
  lanesum (posTerm C (addf (col b f) (word1 0x46000000#32)) lo hi) (lo / 128) ((hi + 127) / 128 - lo / 128)

def accTot (C : FVec F S42x2048 .f32) (lo hi : Nat) : FVec F S42x128 .f32 :=
  lanesum (totTerm C lo hi) (lo / 128) ((hi + 127) / 128 - lo / 128)

/-! ## The features -/

def count (a : FVec F S42x128 .f32) : FVec F S42x1 .f32 := total (packs a)

/-- The share of positive positions from their count. -/
def share (s : Share) (c : FVec F S42x1 .f32) : FVec F S42x1 .f32 :=
  match s with
  | .word w => mulf c (word1 w)
  | .name s w => mulf c (broadcast S42x1 (Named.named κ s w))
  | .quot w => divf c (word1 w)

/-- The sum of the positive differences, -/
def relu (a : FVec F S42x128 .f32) (b : FVec F S42x1 .f32) : FVec F S42x1 .f32 :=
  subf (total (rest a)) (mulf (count a) b)

/-- and its quotient by the sum of all the differences' sizes. -/
def quot (a t : FVec F S42x128 .f32) (b : FVec F S42x1 .f32) (len : BitVec 32) : FVec F S42x1 .f32 :=
  divf (relu a b) (maximumf (subf (mulf (word1 0x40000000#32) (relu a b))
    (subf (total (rest t)) (mulf (word1 len) b))) (word1 0x322BCC77#32))

/-- The columns of one store, each with its shape: the biases' shares, then their quotients. -/
def cols {nf : Nat} (C : FVec F S42x2048 .f32) (b : FVec F (Sh 42 nf) .f32) (lo hi : Nat) (len : BitVec 32) (s : Share) :
    List ((s : Shape) × (s.Idx → F .f32)) :=
  (List.range nf).map (fun f => ⟨S42x1, share s (count (accPos C b lo hi f))⟩)
    ++ (List.range nf).map (fun f => ⟨S42x1, quot (accPos C b lo hi f) (accTot C lo hi) (col b f) len⟩)

theorem concatCols : ∀ (l : List Shape) (n : Nat), 2 ≤ n → l = List.replicate n S42x1 →
    Shape.Concatenates l (Sh 42 n) (1 : Fin 2) := by
  rintro l n hn rfl
  refine ⟨by simpa using hn, fun s hs => ?_, ?_⟩
  · obtain rfl := (List.mem_replicate.mp hs).2
    exact ⟨rfl, fun x hx => by
      match x with
      | ⟨0, _⟩ => rfl
      | ⟨1, _⟩ => exact absurd rfl hx⟩
  · simp [Sh, S42x1]

theorem cols_shapes {nf : Nat} (C : FVec F S42x2048 .f32) (b : FVec F (Sh 42 nf) .f32) (lo hi : Nat) (len : BitVec 32)
    (s : Share) : (cols C b lo hi len s).map (·.1) = List.replicate (2 * nf) S42x1 := by
  simp only [cols, List.map_append, List.map_map, Function.comp_def, List.map_const', List.length_range,
    List.replicate_append_replicate, two_mul]

theorem blockCasts (n : Nat) : (Sh 42 n).ShapeCasts ⟨4, ![1, 1, 42, n]⟩ := by
  simp [Shape.ShapeCasts, Shape.numel, Sh, Fin.prod_univ_succ]

theorem biasCasts (n : Nat) : (⟨3, ![1, 42, n]⟩ : Shape).ShapeCasts (Sh 42 n) := by
  simp [Shape.ShapeCasts, Shape.numel, Sh, Fin.prod_univ_succ]

/-- One store's block. -/
def block {nf : Nat} (hnf : 1 ≤ nf) (C : FVec F S42x2048 .f32) (b : Vec F ⟨3, ![1, 42, nf]⟩ .f32) (lo hi : Nat) (len : BitVec 32) (s : Share) :
    FVec F ⟨4, ![1, 1, 42, 2 * nf]⟩ .f32 :=
  shapeCast ⟨4, ![1, 1, 42, 2 * nf]⟩
    (concatenate (Sh 42 (2 * nf)) 1 (cols C (shapeCast (Sh 42 nf) b (biasCasts nf)) lo hi len s)
      (concatCols _ _ (by omega) (cols_shapes _ _ _ _ _ _))) (blockCasts _)

end Cert.Feat

end
-- ==== Proof.Feat.Lane.lean ====
/- The packed lane sums over the reals: a lane sum of at most sixteen raised entries is the plain sum and a multiple of
   the packing constant, which the rounding separates; sums over chunks and lanes are sums over positions. -/
module

public import proofs.«01_k».proof.Proof.Feat.Unit
public import Idealize.ShloMosaic.Lib.Pointwise
public import Idealize.ShloMosaic.Lib.Pipeline.Value

@[expose] public section

noncomputable section

namespace Cert.Feat

open Cert.KernelIdeal Cert.KernelIdeal.Gen Idealize.ShloMosaic Idealize.ShloMosaic.TcCoe Idealize.SL.Sem
open Finset

/-! ## Over the reals -/

theorem round_pack (m : Nat) (s : ℝ) (h : |s| < 4096) :
    Ideal.roundHalfEven ((s + 8192 * m) * (1 / 8192)) = (m : ℤ) := by
  obtain ⟨h1, h2⟩ := abs_lt.mp h
  rcases le_or_gt 0 s with hs | hs
  · have hf : ⌊(s + 8192 * m) * (1 / 8192)⌋ = (m : ℤ) := by
      rw [Int.floor_eq_iff]; constructor <;> push_cast <;> linarith
    unfold Ideal.roundHalfEven
    simp only [hf]
    rw [if_pos (by push_cast; linarith)]
  · have hf : ⌊(s + 8192 * m) * (1 / 8192)⌋ = (m : ℤ) - 1 := by
      rw [Int.floor_eq_iff]; constructor <;> push_cast <;> linarith
    unfold Ideal.roundHalfEven
    simp only [hf]
    rw [if_neg (by push_cast; linarith), if_pos (by push_cast; linarith)]
    ring

/-- The sum over chunks and lanes of a function that is nothing outside `[lo, hi)` is its sum over positions. -/
theorem sum_chunks (g : Nat → ℝ) (lo hi : Nat) (hhi : hi ≤ 2048) (hg : ∀ t, ¬(lo ≤ t ∧ t < hi) → g t = 0) :
    ∑ l : Fin 128, ∑ k ∈ range ((hi + 127) / 128 - lo / 128), g (128 * (lo / 128 + k) + l.val) = ∑ t : Fin 2048, g t.val := by
  have hb : ∀ (j0 n : Nat), ∑ k ∈ range n, ∑ l ∈ range 128, g (128 * (j0 + k) + l)
      = ∑ t ∈ Ico (128 * j0) (128 * (j0 + n)), g t := by
    intro j0 n
    induction n with
    | zero => simp
    | succ n ih =>
      rw [sum_range_succ, ih, ← sum_Ico_consecutive g (show 128 * j0 ≤ 128 * (j0 + n) by omega)
        (show 128 * (j0 + n) ≤ 128 * (j0 + (n + 1)) by omega), sum_Ico_eq_sum_range g (128 * (j0 + n))]
      congr 2
      congr 1
      omega
  rw [Fin.sum_univ_eq_sum_range (fun l => ∑ k ∈ range ((hi + 127) / 128 - lo / 128), g (128 * (lo / 128 + k) + l)) 128,
    sum_comm, hb, Fin.sum_univ_eq_sum_range g 2048]
  have hz : ∀ t, ¬(lo ≤ t ∧ t < hi) → g t = 0 := hg
  calc _ = ∑ t ∈ Ico lo hi, g t := by
        refine (sum_subset (fun t ht => ?_) (fun t _ ht => ?_)).symm
        · simp only [mem_Ico] at ht ⊢; omega
        · simp only [mem_Ico] at ht; exact hz t (by omega)
    _ = _ := by
        refine sum_subset (fun t ht => ?_) (fun t _ ht => ?_)
        · simp only [mem_Ico, mem_range] at ht ⊢; omega
        · simp only [mem_Ico] at ht; exact hz t (by omega)

/-! ## Constants -/

theorem word_zero : Ideal.ofBits .f32 0x00000000#32 = ((0 : ℝ) : EReal) := by
  rw [Ideal.ofBits_zero_f32]; rfl
theorem word_two : Ideal.ofBits .f32 0x40000000#32 = ((2 : ℝ) : EReal) := by
  simp [Ideal.ofBits, Ideal.ieee, -EReal.coe_mul]; norm_num
theorem word_pack : Ideal.ofBits .f32 0x46000000#32 = ((8192 : ℝ) : EReal) := by
  simp [Ideal.ofBits, Ideal.ieee, -EReal.coe_mul]; norm_num
theorem word_unpack : Ideal.ofBits .f32 0x39000000#32 = ((1 / 8192 : ℝ) : EReal) := by
  simp [Ideal.ofBits, Ideal.ieee, -EReal.coe_mul]; norm_num

/-! ## The masks -/

theorem toInt_place (lo j : Nat) (hlo : lo ≤ 2048) (hj : j ≤ 16) :
    (BitVec.ofInt 32 ((lo : Int) - 128 * j)).toInt = (lo : Int) - 128 * j := by
  rw [BitVec.toInt_ofInt, Int.bmod_eq_of_le] <;> omega

theorem toInt_lane (l : Nat) (hl : l < 128) : (BitVec.ofNat 32 l).toInt = l := by
  rw [BitVec.toInt_eq_toNat_of_lt (by rw [BitVec.toNat_ofNat]; omega), BitVec.toNat_ofNat]; omega

theorem lane_ge (lo j l : Nat) (hlo : lo ≤ 2048) (hj : j ≤ 16) (hl : l < 128) :
    IntOp.cmpi .sge (BitVec.ofNat 32 l) (BitVec.ofInt 32 ((lo : Int) - 128 * j)) = BitVec.ofBool (decide (lo ≤ 128 * j + l)) := by
  simp only [IntOp.cmpi, BitVec.sle, toInt_place lo j hlo hj, toInt_lane l hl]
  congr 2
  simp only [eq_iff_iff]; omega

theorem lane_lt (hi j l : Nat) (hhi : hi ≤ 2048) (hj : j ≤ 16) (hl : l < 128) :
    IntOp.cmpi .slt (BitVec.ofNat 32 l) (BitVec.ofInt 32 ((hi : Int) - 128 * j)) = BitVec.ofBool (decide (128 * j + l < hi)) := by
  simp only [IntOp.cmpi, BitVec.slt, toInt_place hi j hhi hj, toInt_lane l hl]
  congr 2
  simp only [eq_iff_iff]; omega

theorem lanes_apply (lo hi j : Nat) (hlo : lo ≤ 2048) (hhi : hi ≤ 2048) (hj : j ≤ 16) (l : Fin 128) :
    lanes lo hi j (ix2 0 l) = BitVec.ofBool (decide (lo ≤ 128 * j + l.val ∧ 128 * j + l.val < hi)) := by
  have h1 := lane_ge lo j l.val hlo hj l.isLt
  have h2 := lane_lt hi j l.val hhi hj l.isLt
  unfold lanes
  pointwise
  refine (congrArg₂ IntOp.andi h1 h2).trans ?_
  by_cases h3 : lo ≤ 128 * j + l.val <;> by_cases h4 : 128 * j + l.val < hi <;> simp [h3, h4, IntOp.andi]

/-! ## The terms of a lane sum -/

theorem chunk_apply (C : FVec Ideal S42x2048 .f32) (j : Nat) (hj : j < 16) (r : Fin 42) (l : Fin 128) :
    chunk C j (ix2 r l) = C (ix2 r ⟨128 * j + l.val, by omega⟩) := by
  unfold chunk
  rw [dif_pos (by omega : 128 * j + 128 ≤ 2048)]
  exact extractStridedSlice_apply _ _ _ _ _ fun a => match a with
    | ⟨0, _⟩ => by simp [ix2]
    | ⟨1, _⟩ => by simp [ix2]

theorem zeros_apply (i : S42x128.Idx) : zeros (F := Ideal) i = ((0 : ℝ) : EReal) := word_zero

theorem whole_iff (lo hi j : Nat) : whole lo hi j = true ↔ lo ≤ 128 * j ∧ 128 * j + 128 ≤ hi := by
  simp [whole, Nat.ble_eq]

theorem totTerm_apply (C : FVec Ideal S42x2048 .f32) (lo hi j : Nat) (hlo : lo ≤ 2048) (hhi : hi ≤ 2048) (hj : j < 16)
    (r : Fin 42) (l : Fin 128) : totTerm C lo hi j (ix2 r l)
      = if lo ≤ 128 * j + l.val ∧ 128 * j + l.val < hi then C (ix2 r ⟨128 * j + l.val, by omega⟩) else ((0 : ℝ) : EReal) := by
  unfold totTerm
  cases hw : whole lo hi j
  · have h := lanes_apply lo hi j hlo hhi (by omega) l
    simp only [cond_false]
    pointwise
    rw [h, chunk_apply C j hj, zeros_apply]
    by_cases h3 : lo ≤ 128 * j + l.val ∧ 128 * j + l.val < hi
    · simp [h3, Scalar.select]
    · simp [h3, Scalar.select]
  · rw [whole_iff] at hw
    simp only [cond_true]
    rw [chunk_apply C j hj, if_pos (by omega)]

theorem posTerm_apply (C : FVec Ideal S42x2048 .f32) (b : FVec Ideal S42x1 .f32) (lo hi j : Nat) (hlo : lo ≤ 2048)
    (hhi : hi ≤ 2048) (hj : j < 16) (r : Fin 42) (l : Fin 128) : posTerm C b lo hi j (ix2 r l)
      = if (lo ≤ 128 * j + l.val ∧ 128 * j + l.val < hi) ∧ b (ix2 r 0) < C (ix2 r ⟨128 * j + l.val, by omega⟩)
        then C (ix2 r ⟨128 * j + l.val, by omega⟩) else ((0 : ℝ) : EReal) := by
  unfold posTerm
  cases hw : whole lo hi j
  · have h := lanes_apply lo hi j hlo hhi (by omega) l
    simp only [cond_false]
    pointwise
    rw [h, chunk_apply C j hj, zeros_apply]
    by_cases h3 : lo ≤ 128 * j + l.val ∧ 128 * j + l.val < hi <;>
      by_cases h4 : b (ix2 r 0) < C (ix2 r ⟨128 * j + l.val, by omega⟩) <;>
      simp [h3, h4, Scalar.select, IntOp.andi, FloatOps.cmpf, Ideal.cmp]
  · rw [whole_iff] at hw
    simp only [cond_true]
    pointwise
    rw [chunk_apply C j hj, zeros_apply]
    have h3 : lo ≤ 128 * j + l.val ∧ 128 * j + l.val < hi := by omega
    by_cases h4 : b (ix2 r 0) < C (ix2 r ⟨128 * j + l.val, by omega⟩) <;>
      simp [h3, h4, Scalar.select, FloatOps.cmpf, Ideal.cmp]

end Cert.Feat
-- ==== Proof.Feat.Conv.lean ====
/- The kernel's combined convolution at an index over the reals. -/
module

public import proofs.«01_k».proof.Proof.Feat.Unit
public import proofs.«01_k».proof.Proof.Feat.Lane
public import Idealize.ShloMosaic.Lib.Pointwise
public import Idealize.ShloMosaic.Lib.Pipeline.Value

@[expose] public section

set_option maxRecDepth 16384

noncomputable section

namespace Cert.Feat

open Cert.KernelIdeal Cert.KernelIdeal.Gen Idealize.ShloMosaic Idealize.ShloMosaic.TcCoe Idealize.SL.Sem
open Finset

/-- The row of a channel at a tap of spacing `d`, nothing outside its range. -/
def tape (x : Fin 9 → Fin 2048 → EReal) (d : Nat) (c s : Fin 9) (t : Fin 2048) : EReal :=
  if h : 4 * d ≤ t.val + s.val * d ∧ t.val + s.val * d < 2048 + 4 * d then x c ⟨t.val + s.val * d - 4 * d, by omega⟩ else 0

/-- The terms of a sum that is a real number are real numbers. -/
theorem real_term {n : Nat} (g : Fin n → EReal) (r : ℝ) (h : ∑ i, g i = ((r : ℝ) : EReal)) (i : Fin n) :
    ∃ q : ℝ, g i = ((q : ℝ) : EReal) := by
  rw [← add_sum_erase univ g (mem_univ i)] at h
  generalize ∑ j ∈ univ.erase i, g j = e at h
  generalize g i = a at h ⊢
  induction a using EReal.rec with
  | bot => simp at h
  | coe q => exact ⟨q, rfl⟩
  | top =>
    induction e using EReal.rec with
    | bot => simp at h
    | coe q => simp at h
    | top => simp at h

theorem coe_sum {n : Nat} (g : Fin n → ℝ) : ∑ k, ((g k : ℝ) : EReal) = ((∑ k, g k : ℝ) : EReal) :=
  (map_sum (⟨⟨Real.toEReal, rfl⟩, EReal.coe_add⟩ : ℝ →+ EReal) g _).symm

/-- Where the channels' combination is a real number and the mask is real, every product of a filter's tap with the mask and
    the row is a real number, and their sum is the combination. -/
theorem real_products (k m : Fin 9 → EReal) (T : Fin 9 → Fin 9 → EReal) (hm : ∀ c, ∃ q : ℝ, m c = ((q : ℝ) : EReal)) (r : ℝ)
    (h : ∑ c, m c * ∑ s, k s * T c s = ((r : ℝ) : EReal)) :
    ∃ a : Fin 9 → Fin 9 → ℝ, (∀ c s, k s * m c * T c s = ((a c s : ℝ) : EReal)) ∧ ∑ c, ∑ s, a c s = r := by
  have h1 : ∀ c, ∃ a : Fin 9 → ℝ, (∀ s, k s * m c * T c s = ((a s : ℝ) : EReal)) ∧ m c * ∑ s, k s * T c s = ((∑ s, a s : ℝ) : EReal) := by
    intro c
    obtain ⟨v, hv⟩ := real_term _ r h c
    obtain ⟨q, hq⟩ := hm c
    rw [hq] at hv ⊢
    by_cases h0 : q = 0
    · exact ⟨fun _ => 0, fun s => by simp [h0], by simp [h0]⟩
    · have h2 : ∃ u : ℝ, ∑ s, k s * T c s = ((u : ℝ) : EReal) := by
        generalize ∑ s, k s * T c s = e at hv
        induction e using EReal.rec with
        | bot =>
          rcases lt_or_gt_of_ne h0 with hl | hl
          · rw [EReal.coe_mul_bot_of_neg hl] at hv; exact absurd hv.symm (EReal.coe_ne_top v)
          · rw [EReal.coe_mul_bot_of_pos hl] at hv; exact absurd hv.symm (EReal.coe_ne_bot v)
        | coe u => exact ⟨u, rfl⟩
        | top =>
          rcases lt_or_gt_of_ne h0 with hl | hl
          · rw [EReal.coe_mul_top_of_neg hl] at hv; exact absurd hv.symm (EReal.coe_ne_bot v)
          · rw [EReal.coe_mul_top_of_pos hl] at hv; exact absurd hv.symm (EReal.coe_ne_top v)
      obtain ⟨u, hu⟩ := h2
      choose p hp using real_term _ u hu
      refine ⟨fun s => q * p s, fun s => ?_, ?_⟩
      · rw [mul_comm (k s), mul_assoc, hp, EReal.coe_mul]
      · rw [← mul_sum, EReal.coe_mul, ← coe_sum, sum_congr rfl fun s _ => hp s]
  choose a ha using h1
  refine ⟨a, fun c => (ha c).1, ?_⟩
  rw [sum_congr rfl fun c _ => (ha c).2, coe_sum] at h
  exact EReal.coe_injective h

theorem word_none : Ideal.ofBits .bf16 0x0000#16 = (0 : EReal) := by
  simp [Ideal.ofBits, Ideal.ieee]
theorem word_one : Ideal.ofBits .bf16 0x3F80#16 = (1 : EReal) := by
  simp [Ideal.ofBits, Ideal.ieee, -EReal.coe_mul]; norm_num

theorem rows_apply (v : Vec Ideal S1x9x2048 .f32) (c : Fin 16) (t : Fin 2048) :
    rows v (ix2 c t) = if h : c.val < 9 then v (ix3 0 ⟨c.val, h⟩ t) else if c.val = 9 then (1 : EReal) else 0 := by
  unfold rows
  pointwise
  by_cases h1 : c.val < 9
  · rw [dif_pos h1, dif_pos h1]
  · rw [dif_neg h1, dif_neg h1]
    by_cases h2 : c.val = 9
    · rw [dif_pos (by omega), if_pos h2]
    · rw [dif_neg (by omega), if_neg h2]

section
variable (x : FVec Ideal S16x2048 .bf16)

theorem shr_apply (o : Nat) (ho : o ≤ 2048) (c : Fin 16) (t : Fin 2048) :
    shr x o ho (ix2 c t) = if h : o ≤ t.val then x (ix2 c ⟨t.val - o, by omega⟩) else (0 : EReal) := by
  unfold shr
  split
  · rename_i h
    refine (concatenate_apply_piece (t := S16x2048) (1 : Fin 2) _ _ _ 1 (by simp) (Sh 16 (2048 - o)) _ rfl rfl o (by simp [Sh])
      (ix2 c ⟨t.val - o, by omega⟩) ?_ ?_).trans ?_
    · intro a ha
      match a with
      | ⟨0, _⟩ => rfl
      | ⟨1, _⟩ => exact absurd rfl ha
    · show o + (t.val - o) = t.val; omega
    · exact extractStridedSlice_apply _ _ _ _ _ fun a => match a with
        | ⟨0, _⟩ => by simp [ix2]
        | ⟨1, _⟩ => by simp [ix2]
  · rename_i h
    refine (concatenate_apply_piece (t := S16x2048) (1 : Fin 2) _ _ _ 0 (by simp) (Sh 16 o) _ rfl rfl 0 (by simp)
      (ix2 c ⟨t.val, by omega⟩) ?_ ?_).trans word_none
    · intro a ha
      match a with
      | ⟨0, _⟩ => rfl
      | ⟨1, _⟩ => exact absurd rfl ha
    · exact Nat.zero_add _

theorem shl_apply (o : Nat) (ho : o ≤ 2048) (c : Fin 16) (t : Fin 2048) :
    shl x o ho (ix2 c t) = if h : t.val + o < 2048 then x (ix2 c ⟨t.val + o, h⟩) else (0 : EReal) := by
  unfold shl
  split
  · rename_i h
    refine (concatenate_apply_piece (t := S16x2048) (1 : Fin 2) _ _ _ 0 (by simp) (Sh 16 (2048 - o)) _ rfl rfl 0 (by simp)
      (ix2 c ⟨t.val, by omega⟩) ?_ ?_).trans ?_
    · intro a ha
      match a with
      | ⟨0, _⟩ => rfl
      | ⟨1, _⟩ => exact absurd rfl ha
    · exact Nat.zero_add _
    · exact extractStridedSlice_apply _ _ _ _ _ fun a => match a with
        | ⟨0, _⟩ => by simp [ix2]
        | ⟨1, _⟩ => by simp [ix2, Nat.add_comm]
  · rename_i h
    refine (concatenate_apply_piece (t := S16x2048) (1 : Fin 2) _ _ _ 1 (by simp) (Sh 16 o) _ rfl rfl (2048 - o) (by simp [Sh])
      (ix2 c ⟨t.val - (2048 - o), by omega⟩) ?_ ?_).trans word_none
    · intro a ha
      match a with
      | ⟨0, _⟩ => rfl
      | ⟨1, _⟩ => exact absurd rfl ha
    · show (2048 - o) + (t.val - (2048 - o)) = t.val; omega

/-- One of the nine shifts. -/
def shift (d : Nat) (hd : 8 * d ≤ 2040) : Fin 9 → FVec Ideal S16x2048 .bf16 :=
  ![shr x (4 * d) (by omega), shr x (3 * d) (by omega), shr x (2 * d) (by omega), shr x (1 * d) (by omega), x,
    shl x (1 * d) (by omega), shl x (2 * d) (by omega), shl x (3 * d) (by omega), shl x (4 * d) (by omega)]

theorem shift_apply (d : Nat) (hd : 8 * d ≤ 2040) (s : Fin 9) (c : Fin 16) (t : Fin 2048) :
    shift x d hd s (ix2 c t) = if h : 4 * d ≤ t.val + s.val * d ∧ t.val + s.val * d < 2048 + 4 * d then
      x (ix2 c ⟨t.val + s.val * d - 4 * d, by omega⟩) else (0 : EReal) := by
  have hr : ∀ (s : Fin 9) (o : Nat) (ho : o ≤ 2048), s.val * d + o = 4 * d → shr x o ho (ix2 c t) =
      if h : 4 * d ≤ t.val + s.val * d ∧ t.val + s.val * d < 2048 + 4 * d then
      x (ix2 c ⟨t.val + s.val * d - 4 * d, by omega⟩) else (0 : EReal) := by
    intro s o ho h
    rw [shr_apply]
    by_cases h1 : o ≤ t.val
    · rw [dif_pos h1, dif_pos (by omega)]
      exact congrArg x (congrArg (ix2 c) (Fin.ext (by show t.val - o = t.val + s.val * d - 4 * d; omega)))
    · rw [dif_neg h1, dif_neg (by omega)]
  have hl : ∀ (s : Fin 9) (o : Nat) (ho : o ≤ 2048), s.val * d = 4 * d + o → shl x o ho (ix2 c t) =
      if h : 4 * d ≤ t.val + s.val * d ∧ t.val + s.val * d < 2048 + 4 * d then
      x (ix2 c ⟨t.val + s.val * d - 4 * d, by omega⟩) else (0 : EReal) := by
    intro s o ho h
    rw [shl_apply]
    by_cases h1 : t.val + o < 2048
    · rw [dif_pos h1, dif_pos (by omega)]
      exact congrArg x (congrArg (ix2 c) (Fin.ext (by show t.val + o = t.val + s.val * d - 4 * d; omega)))
    · rw [dif_neg h1, dif_neg (by omega)]
  match s with
  | ⟨0, _⟩ => exact hr ⟨0, by decide⟩ (4 * d) (by omega) (by show 0 * d + 4 * d = 4 * d; omega)
  | ⟨1, _⟩ => exact hr ⟨1, by decide⟩ (3 * d) (by omega) (by show 1 * d + 3 * d = 4 * d; omega)
  | ⟨2, _⟩ => exact hr ⟨2, by decide⟩ (2 * d) (by omega) (by show 2 * d + 2 * d = 4 * d; omega)
  | ⟨3, _⟩ => exact hr ⟨3, by decide⟩ (1 * d) (by omega) (by show 3 * d + 1 * d = 4 * d; omega)
  | ⟨4, _⟩ =>
    show x (ix2 c t) = _
    rw [dif_pos (by show 4 * d ≤ t.val + 4 * d ∧ t.val + 4 * d < 2048 + 4 * d; omega)]
    exact congrArg x (congrArg (ix2 c) (Fin.ext (by show t.val = t.val + 4 * d - 4 * d; omega)))
  | ⟨5, _⟩ => exact hl ⟨5, by decide⟩ (1 * d) (by omega) (by show 5 * d = 4 * d + 1 * d; omega)
  | ⟨6, _⟩ => exact hl ⟨6, by decide⟩ (2 * d) (by omega) (by show 6 * d = 4 * d + 2 * d; omega)
  | ⟨7, _⟩ => exact hl ⟨7, by decide⟩ (3 * d) (by omega) (by show 7 * d = 4 * d + 3 * d; omega)
  | ⟨8, _⟩ => exact hl ⟨8, by decide⟩ (4 * d) (by omega) (by show 8 * d = 4 * d + 4 * d; omega)

theorem stack_apply (d : Nat) (hd : 8 * d ≤ 2040) (s : Fin 9) (c : Fin 16) (t : Fin 2048) :
    stack x d hd (ix2 ⟨s.val * 16 + c.val, by omega⟩ t) = shift x d hd s (ix2 c t) := by
  have key : ∀ (k : Nat) (hk : k < 9) (h16 : k * 16 + c.val < 144), stack x d hd (ix2 ⟨k * 16 + c.val, h16⟩ t)
      = concatenate S144x2048 0 ((List.finRange 9).map fun s => (⟨S16x2048, shift x d hd s⟩ : (s : Shape) × (s.Idx → EReal)))
        concatenates_S16x2048_S16x2048_S16x2048_S16x2048_S16x2048_S16x2048_S16x2048_S16x2048_S16x2048_S144x2048_d0
        (ix2 ⟨k * 16 + c.val, h16⟩ t) := fun k hk h16 => rfl
  rw [key s.val s.isLt]
  refine concatenate_apply_piece (t := S144x2048) (0 : Fin 2) _ _ _ s.val (by simp) S16x2048 (shift x d hd s) (by simp; rfl) rfl
    (s.val * 16) ?_ (ix2 c t) ?_ ?_
  · rw [List.map_take, List.map_map, List.map_take, List.map_map]
    have : (List.finRange 9).map ((fun s : Shape => if h : s.rank = S144x2048.rank then s.size ((0 : Fin S144x2048.rank).cast h.symm) else 0) ∘
      ((·.1) ∘ fun s => (⟨S16x2048, shift x d hd s⟩ : (s : Shape) × (s.Idx → EReal)))) = List.replicate 9 16 := rfl
    refine (congrArg (fun l => (List.take s.val l).sum) this).trans ?_
    rw [List.take_replicate, List.sum_replicate, smul_eq_mul, Nat.min_eq_left (by omega)]
  · intro a ha
    match a with
    | ⟨0, _⟩ => exact absurd rfl ha
    | ⟨1, _⟩ => rfl
  · rfl

end

theorem fold_taps (A : Fin 9 → Fin 9 → ℝ) :
    (∑ s : Fin 9, ∑ c : Fin 16, if h : c.val < 9 then A s ⟨c.val, h⟩ else if s.val = 4 ∧ c.val = 9 then 8192 else 0)
      = (∑ s, ∑ c, A s c) + 8192 := by
  have h1 : ∀ s : Fin 9, (∑ c : Fin 16, if h : c.val < 9 then A s ⟨c.val, h⟩ else if s.val = 4 ∧ c.val = 9 then 8192 else 0)
      = (∑ c, A s c) + if s.val = 4 then 8192 else 0 := by
    intro s
    refine (Fin.sum_univ_add (a := 9) (b := 7) (fun c : Fin (9 + 7) => if h : c.val < 9 then A s ⟨c.val, h⟩ else if s.val = 4 ∧ c.val = 9 then 8192 else 0)).trans ?_
    refine congrArg₂ (· + ·) (sum_congr rfl fun c _ => ?_) ?_
    · have : (Fin.castAdd 7 c).val < 9 := c.isLt
      rw [dif_pos this]; rfl
    · rw [Fin.sum_univ_seven]; simp
  rw [sum_congr rfl fun s _ => h1 s, sum_add_distrib]
  congr 1
  simp [Fin.sum_univ_succ]

theorem sum_split (g : Fin 144 → EReal) : ∑ u, g u = ∑ s : Fin 9, ∑ c : Fin 16, g ⟨s.val * 16 + c.val, by omega⟩ := by
  rw [← Fintype.sum_prod_type' (fun (s : Fin 9) (c : Fin 16) => g ⟨s.val * 16 + c.val, by omega⟩),
    ← (finProdFinEquiv (m := 9) (n := 16)).sum_comp]
  refine sum_congr rfl fun p _ => congrArg g (Fin.ext ?_)
  show p.2.val + 16 * p.1.val = p.1.val * 16 + p.2.val
  omega

theorem conv_apply (w : Vec Ideal S1x1x42x144 .bf16) (x : FVec Ideal S16x2048 .bf16) (d : Nat) (hd : 8 * d ≤ 2040) (r : Fin 42)
    (t : Fin 2048) (k m : Fin 9 → EReal) (xr : Fin 9 → Fin 2048 → EReal) (a : Fin 9 → Fin 9 → ℝ)
    (hw : ∀ (s : Fin 9) (c : Fin 16), w (ix4 0 0 r ⟨s.val * 16 + c.val, by omega⟩)
      = if s.val = 4 ∧ c.val = 9 then ((8192 : ℝ) : EReal) else if h : c.val < 9 then k s * m ⟨c.val, h⟩ else 0)
    (hx : ∀ (c : Fin 16) (t : Fin 2048), x (ix2 c t) = if h : c.val < 9 then xr ⟨c.val, h⟩ t else if c.val = 9 then (1 : EReal) else 0)
    (ha : ∀ c s, k s * m c * tape xr d c s t = ((a c s : ℝ) : EReal)) :
    conv w (stack x d hd) (ix2 r t) = ((∑ c, ∑ s, a c s + 8192 : ℝ) : EReal) := by
  have hterm : ∀ (s : Fin 9) (c : Fin 16), (w (ix4 0 0 r ⟨s.val * 16 + c.val, by omega⟩) : EReal)
      * (stack x d hd (ix2 ⟨s.val * 16 + c.val, by omega⟩ t) : EReal)
      = ((if h : c.val < 9 then a ⟨c.val, h⟩ s else if s.val = 4 ∧ c.val = 9 then 8192 else 0 : ℝ) : EReal) := by
    intro s c
    rw [hw, stack_apply, shift_apply]
    by_cases h1 : c.val < 9
    · rw [if_neg (by omega), dif_pos h1, dif_pos h1, ← ha]
      unfold tape
      split
      · rw [hx, dif_pos h1]
      · rfl
    · rw [dif_neg h1, dif_neg h1]
      by_cases h2 : s.val = 4 ∧ c.val = 9
      · rw [if_pos h2, if_pos h2, dif_pos (by rw [h2.1]; omega), hx, dif_neg h1, if_pos h2.2, mul_one]
      · rw [if_neg h2, if_neg h2, zero_mul]; rfl
  unfold conv
  pointwise
  refine (sum_split fun u => (w (ix4 0 0 r u) : EReal) * (stack x d hd (ix2 u t) : EReal)).trans ?_
  simp only [hterm, coe_sum]
  rw [fold_taps fun s c => a c s, sum_comm]

end Cert.Feat
-- ==== Proof.Feat.Pieces.lean ====
/- What the kernel's body stores, as one list over the dilations: for each of a block's two batches the half of the filters
   that is pooled over the whole range and the half that is pooled over the cropped one. -/
module

public import proofs.«01_k».proof.Proof.Feat.Unit
public import proofs.«01_k».proof.Proof.Gen.KernelIdeal.Frame

@[expose] public section

set_option maxRecDepth 16384

noncomputable section

namespace Cert.Feat

open Cert.KernelIdeal Cert.KernelIdeal.Gen Idealize.ShloMosaic Idealize.ShloMosaic.TcCoe Idealize.SL.Sem
open Idealize.ShloMosaic.Tactic

variable {F : FTy → Type} [FloatOps F] [Named F]

/-- The dilations, the last one first. -/
def dils : List Dil := [
  ⟨25, 255, 1, 58, 0x41000000#32, .word 0x3E000000#32, by decide, by decide, by decide, by decide⟩,
  ⟨24, 213, 1, 57, 0x43AC0000#32, .name "inv_344" 0x3B3E82FA#32, by decide, by decide, by decide, by decide⟩,
  ⟨23, 178, 1, 56, 0x441C0000#32, .name "inv_624" 0x3AD20D21#32, by decide, by decide, by decide, by decide⟩,
  ⟨22, 149, 1, 55, 0x44560000#32, .name "inv_856" 0x3A991F1A#32, by decide, by decide, by decide, by decide⟩,
  ⟨21, 125, 1, 54, 0x44830000#32, .name "inv_1048" 0x3A7A232D#32, by decide, by decide, by decide, by decide⟩,
  ⟨20, 104, 2, 52, 0x44980000#32, .name "inv_1216" 0x3A579436#32, by decide, by decide, by decide, by decide⟩,
  ⟨19, 87, 2, 50, 0x44A90000#32, .name "inv_1352" 0x3A41E4BC#32, by decide, by decide, by decide, by decide⟩,
  ⟨18, 73, 2, 48, 0x44B70000#32, .name "inv_1464" 0x3A330F63#32, by decide, by decide, by decide, by decide⟩,
  ⟨17, 61, 2, 46, 0x44C30000#32, .name "inv_1560" 0x3A280A81#32, by decide, by decide, by decide, by decide⟩,
  ⟨16, 51, 2, 44, 0x44CD0000#32, .name "inv_1640" 0x3A1FD80A#32, by decide, by decide, by decide, by decide⟩,
  ⟨15, 42, 2, 42, 0x44D60000#32, .name "inv_1712" 0x3A191F1A#32, by decide, by decide, by decide, by decide⟩,
  ⟨14, 35, 2, 40, 0x44DD0000#32, .name "inv_1768" 0x3A144581#32, by decide, by decide, by decide, by decide⟩,
  ⟨13, 29, 2, 38, 0x44E30000#32, .name "inv_1816" 0x3A105A38#32, by decide, by decide, by decide, by decide⟩,
  ⟨12, 25, 2, 36, 0x44E70000#32, .name "inv_1848" 0x3A0DDA52#32, by decide, by decide, by decide, by decide⟩,
  ⟨11, 20, 2, 34, 0x44EC0000#32, .name "inv_1888" 0x3A0AD8F3#32, by decide, by decide, by decide, by decide⟩,
  ⟨10, 17, 2, 32, 0x44EF0000#32, .name "inv_1912" 0x3A091AC7#32, by decide, by decide, by decide, by decide⟩,
  ⟨9, 14, 2, 30, 0x44F20000#32, .name "inv_1936" 0x3A0767AB#32, by decide, by decide, by decide, by decide⟩,
  ⟨8, 12, 2, 28, 0x44F40000#32, .name "inv_1952" 0x3A064B8A#32, by decide, by decide, by decide, by decide⟩,
  ⟨7, 10, 2, 26, 0x44F60000#32, .name "inv_1968" 0x3A053408#32, by decide, by decide, by decide, by decide⟩,
  ⟨6, 8, 2, 24, 0x44F80000#32, .name "inv_1984" 0x3A042108#32, by decide, by decide, by decide, by decide⟩,
  ⟨5, 7, 2, 22, 0x44F90000#32, .quot 0x44F90000#32, by decide, by decide, by decide, by decide⟩,
  ⟨4, 5, 4, 18, 0x44FB0000#32, .name "inv_2008" 0x3A028CC0#32, by decide, by decide, by decide, by decide⟩,
  ⟨3, 4, 2, 16, 0x44FC0000#32, .name "inv_2016" 0x3A020821#32, by decide, by decide, by decide, by decide⟩,
  ⟨2, 3, 2, 14, 0x44FD0000#32, .quot 0x44FD0000#32, by decide, by decide, by decide, by decide⟩,
  ⟨1, 2, 6, 8, 0x44FE0000#32, .name "inv_2032" 0x3A010204#32, by decide, by decide, by decide, by decide⟩,
  ⟨0, 1, 8, 0, 0x44FF0000#32, .quot 0x44FF0000#32, by decide, by decide, by decide, by decide⟩]

theorem inbX (bi : Nat) (h : bi < 2) : ∀ a, (![bi, 0, 0] : Fin 3 → Nat) a + S1x9x2048.size a ≤ S2x9x2048.size a := by
  intro a
  match a with
  | ⟨0, _⟩ => show bi + 1 ≤ 2; omega
  | ⟨1, _⟩ => exact le_refl 9
  | ⟨2, _⟩ => exact le_refl 2048

theorem inbW (i g : Nat) (hi : i < 26) (hg : g < 2) :
    ∀ a, (![i, g, 0, 0] : Fin 4 → Nat) a + S1x1x42x144.size a ≤ S26x2x42x144.size a := by
  intro a
  match a with
  | ⟨0, _⟩ => show i + 1 ≤ 26; omega
  | ⟨1, _⟩ => show g + 1 ≤ 2; omega
  | ⟨2, _⟩ => exact le_refl 42
  | ⟨3, _⟩ => exact le_refl 144

theorem inbB (g off nf : Nat) (hg : g < 2) (h : off + nf ≤ 59) :
    ∀ a, (![g, 0, off] : Fin 3 → Nat) a + (⟨3, ![1, 42, nf]⟩ : Shape).size a ≤ S2x42x59.size a := by
  intro a
  match a with
  | ⟨0, _⟩ => show g + 1 ≤ 2; omega
  | ⟨1, _⟩ => exact le_refl 42
  | ⟨2, _⟩ => exact h

theorem inbO (bi g off nf : Nat) (hb : bi < 2) (hg : g < 2) (h : off + nf ≤ 59) :
    ∀ a, (![bi, g, 0, 2 * off] : Fin 4 → Nat) a + (⟨4, ![1, 1, 42, 2 * nf]⟩ : Shape).size a ≤ S2x2x42x118.size a := by
  intro a
  match a with
  | ⟨0, _⟩ => show bi + 1 ≤ 2; omega
  | ⟨1, _⟩ => show g + 1 ≤ 2; omega
  | ⟨2, _⟩ => exact le_refl 42
  | ⟨3, _⟩ => show 2 * off + 2 * nf ≤ 118; omega

section
variable (arg1 : Memref sig .tc .vmem S2x9x2048 .f32) (harg1 : arg1.IsWhole)
  (arg2 : Memref sig .tc .vmem S26x2x42x144 .bf16) (harg2 : arg2.IsWhole)
  (arg3 : Memref sig .tc .vmem S2x42x59 .f32) (harg3 : arg3.IsWhole)
  (x0 : Vec F S2x9x2048 .f32) (x1 : Vec F S26x2x42x144 .bf16) (x2 : Vec F S2x42x59 .f32)

def ldX (bi : Nat) (h : bi < 2) : Vec F S1x9x2048 .f32 :=
  View.readAt (Elt F) arg1.view (Rect.unit (s := S2x9x2048) ![bi, 0, 0] S1x9x2048.size (inbX bi h)).toLoadRect (harg1.unread x0)

def ldW (i g : Nat) (hi : i < 26) (hg : g < 2) : Vec F S1x1x42x144 .bf16 :=
  View.readAt (Elt F) arg2.view (Rect.unit (s := S26x2x42x144) ![i, g, 0, 0] S1x1x42x144.size (inbW i g hi hg)).toLoadRect
    (harg2.unread x1)

def ldB (g off nf : Nat) (hg : g < 2) (h : off + nf ≤ 59) : Vec F ⟨3, ![1, 42, nf]⟩ .f32 :=
  View.readAt (Elt F) arg3.view (Rect.unit (s := S2x42x59) ![g, 0, off] (⟨3, ![1, 42, nf]⟩ : Shape).size (inbB g off nf hg h)).toLoadRect
    (harg3.unread x2)

/-- The combined convolution of batch `bi` and half `g`. -/
def pconv (D : Dil) (bi g : Nat) (hb : bi < 2) (hg : g < 2) : FVec F S42x2048 .f32 :=
  conv (ldW arg2 harg2 x1 D.i g D.hi hg) (stack (rows (ldX arg1 harg1 x0 bi hb)) D.d D.hd)

/-- One store: its rectangle and its block, pooled over `[lo, hi)`. -/
def piece (D : Dil) (bi g : Nat) (hb : bi < 2) (hg : g < 2) (lo hi : Nat) (len : BitVec 32) (s : Share) :
    View.Piece (Elt F) S2x2x42x118 .f32 :=
  ⟨Rect.unit (s := S2x2x42x118) ![bi, g, 0, 2 * D.off] (⟨4, ![1, 1, 42, 2 * D.nf]⟩ : Shape).size (inbO bi g D.off D.nf hb hg D.hoff),
    block D.hnf (pconv arg1 harg1 arg2 harg2 x0 x1 D bi g hb hg) (ldB arg3 harg3 x2 g D.off D.nf hg D.hoff) lo hi len s⟩

def full (D : Dil) (bi : Nat) (hb : bi < 2) : View.Piece (Elt F) S2x2x42x118 .f32 :=
  piece arg1 harg1 arg2 harg2 arg3 harg3 x0 x1 x2 D bi (D.i % 2) hb (Nat.mod_lt _ (by decide)) 0 2048 0x45000000#32 (.word 0x3A000000#32)

def crop (D : Dil) (bi : Nat) (hb : bi < 2) : View.Piece (Elt F) S2x2x42x118 .f32 :=
  piece arg1 harg1 arg2 harg2 arg3 harg3 x0 x1 x2 D bi (1 - D.i % 2) hb (by omega) (4 * D.d) (2048 - 4 * D.d) D.len D.sh

def four (D : Dil) : List (View.Piece (Elt F) S2x2x42x118 .f32) :=
  [crop arg1 harg1 arg2 harg2 arg3 harg3 x0 x1 x2 D 1 (by decide), full arg1 harg1 arg2 harg2 arg3 harg3 x0 x1 x2 D 1 (by decide),
    crop arg1 harg1 arg2 harg2 arg3 harg3 x0 x1 x2 D 0 (by decide), full arg1 harg1 arg2 harg2 arg3 harg3 x0 x1 x2 D 0 (by decide)]

end

end Cert.Feat
-- ==== Proof.Feat.Run.lean ====
/- The pieces that the body's run ends with are those of the list over the dilations. -/
module

public import proofs.«01_k».proof.Proof.Feat.Pieces

@[expose] public section

set_option maxRecDepth 16384

noncomputable section

namespace Cert.Feat

open Cert.KernelIdeal Cert.KernelIdeal.Gen Idealize.ShloMosaic Idealize.ShloMosaic.TcCoe Idealize.SL.Sem
open Idealize.ShloMosaic.Tactic

variable {F : FTy → Type} [FloatOps F] [Named F]

theorem run_pieces (c : Dev nD) (i : grid0.Coords) (arg1 : Memref sig .tc .vmem S2x9x2048 .f32) (harg1 : arg1.IsWhole)
    (arg2 : Memref sig .tc .vmem S26x2x42x144 .bf16) (harg2 : arg2.IsWhole)
    (arg3 : Memref sig .tc .vmem S2x42x59 .f32) (harg3 : arg3.IsWhole)
    (arg4 : Memref sig .tc .vmem S2x2x42x118 .f32) (harg4 : arg4.IsWhole)
    (x0 : Vec F S2x9x2048 .f32) (x1 : Vec F S26x2x42x144 .bf16) (x2 : Vec F S2x42x59 .f32) :
    (kernelRun0_A c i arg1 harg1 arg2 harg2 arg3 harg3 arg4 harg4 x0 x1 x2).1
      = dils.flatMap (four arg1 harg1 arg2 harg2 arg3 harg3 x0 x1 x2) := by
  sl_kernel_rfl

end Cert.Feat
-- ==== Proof.Feat.Block.lean ====
/- One store's block at an index: the share of positive positions and the normalised sum of positive differences of one
   filter at one bias, over the reals. -/
module

public import proofs.«01_k».proof.Proof.Feat.Lane

@[expose] public section

noncomputable section

namespace Cert.Feat

open Cert.KernelIdeal Cert.KernelIdeal.Gen Idealize.ShloMosaic Idealize.ShloMosaic.TcCoe Idealize.SL.Sem
open Finset

/-! ## One lane -/

theorem lanesum_apply (t : Nat → FVec Ideal S42x128 .f32) (j0 n : Nat) (i : S42x128.Idx) (v : Nat → ℝ)
    (h : ∀ k < n, t (j0 + k) i = ((v k : ℝ) : EReal)) :
    lanesum t j0 n i = ((∑ k ∈ range n, v k : ℝ) : EReal) := by
  induction n with
  | zero => exact zeros_apply i
  | succ n ih =>
    rw [sum_range_succ, EReal.coe_add, ← ih fun k hk => h k (by omega), ← h n (by omega)]
    rfl

theorem packs_apply (a : FVec Ideal S42x128 .f32) (i : S42x128.Idx) (n : Nat) (hn : n ≤ 16) (p : Nat → Prop)
    [DecidablePred p] (v : Nat → ℝ) (hv : ∀ k < n, |v k| < 256)
    (h : a i = ((∑ k ∈ range n, if p k then v k + 8192 else 0 : ℝ) : EReal)) :
    packs a i = ((∑ k ∈ range n, if p k then 1 else 0 : ℝ) : EReal) ∧
      rest a i = ((∑ k ∈ range n, if p k then v k else 0 : ℝ) : EReal) := by
  have hs : |∑ k ∈ range n, if p k then v k else 0| < 4096 := by
    rcases Nat.eq_zero_or_pos n with rfl | hp
    · simp
    · refine (abs_sum_le_sum_abs _ _).trans_lt ((sum_lt_sum_of_nonempty (by simpa using hp.ne') (g := fun _ => (256 : ℝ))
        fun k hk => ?_).trans_le ?_)
      · split
        · exact hv k (mem_range.mp hk)
        · simp
      · rw [sum_const, card_range, nsmul_eq_mul]
        have : (n : ℝ) ≤ 16 := by exact_mod_cast hn
        linarith
  have hm : (∑ k ∈ range n, if p k then 1 else 0 : ℝ) = ((∑ k ∈ range n, if p k then 1 else 0 : Nat) : ℝ) := by
    push_cast; rfl
  have hd : (∑ k ∈ range n, if p k then v k + 8192 else 0 : ℝ)
      = (∑ k ∈ range n, if p k then v k else 0) + 8192 * ((∑ k ∈ range n, if p k then 1 else 0 : Nat) : ℝ) := by
    rw [← hm, mul_sum, ← sum_add_distrib]
    exact sum_congr rfl fun k _ => by split <;> ring
  have h1 : packs a i = ((∑ k ∈ range n, if p k then 1 else 0 : ℝ) : EReal) := by
    show Ideal.liftRound Ideal.roundHalfEven (a i * Ideal.ofBits .f32 0x39000000#32) = _
    rw [h, word_unpack, ← EReal.coe_mul, hd]
    show (((Ideal.roundHalfEven _ : ℤ) : ℝ) : EReal) = _
    rw [round_pack _ _ hs, hm]
    norm_cast
  refine ⟨h1, ?_⟩
  show a i - packs a i * Ideal.ofBits .f32 0x46000000#32 = _
  rw [h1, h, word_pack, ← EReal.coe_mul, ← EReal.coe_sub, hd, ← hm]
  congr 1; ring

theorem total_apply (v : FVec Ideal S42x128 .f32) (r : Fin 42) : total v (ix2 r 0) = ∑ l : Fin 128, v (ix2 r l) := by
  unfold total
  pointwise

theorem total_coe (v : FVec Ideal S42x128 .f32) (r : Fin 42) (g : Fin 128 → ℝ) (h : ∀ l, v (ix2 r l) = ((g l : ℝ) : EReal)) :
    total v (ix2 r 0) = ((∑ l, g l : ℝ) : EReal) := by
  rw [total_apply, sum_congr rfl fun l _ => h l]
  exact (map_sum (⟨⟨Real.toEReal, rfl⟩, EReal.coe_add⟩ : ℝ →+ EReal) g _).symm

/-! ## The pooled sums -/

/-- Whether position `t` of the range is above the bias. -/
def Above (c : Fin 2048 → ℝ) (β : ℝ) (lo hi : Nat) (t : Fin 2048) : Prop := (lo ≤ t.val ∧ t.val < hi) ∧ β < c t

instance (c : Fin 2048 → ℝ) (β : ℝ) (lo hi : Nat) (t : Fin 2048) : Decidable (Above c β lo hi t) := inferInstanceAs (Decidable (_ ∧ _))

def cnt (c : Fin 2048 → ℝ) (β : ℝ) (lo hi : Nat) : ℝ := ∑ t, if Above c β lo hi t then 1 else 0
def posSum (c : Fin 2048 → ℝ) (β : ℝ) (lo hi : Nat) : ℝ := ∑ t, if Above c β lo hi t then c t else 0
def allSum (c : Fin 2048 → ℝ) (lo hi : Nat) : ℝ := ∑ t : Fin 2048, if lo ≤ t.val ∧ t.val < hi then c t else 0

/-- A function of positions at any number. -/
def ext (c : Fin 2048 → ℝ) (t : Nat) : ℝ := if h : t < 2048 then c ⟨t, h⟩ else 0

theorem ext_val (c : Fin 2048 → ℝ) (t : Fin 2048) : ext c t.val = c t := by simp [ext]

section
variable (C : FVec Ideal S42x2048 .f32) (r : Fin 42) (c : Fin 2048 → ℝ)
  (hC : ∀ t, C (ix2 r t) = ((c t + 8192 : ℝ) : EReal)) (hc : ∀ t, |c t| < 256) (lo hi : Nat) (hlo : lo ≤ 2048) (hhi : hi ≤ 2048)
include hC hc hlo hhi

theorem ext_lt (t : Nat) : |ext c t| < 256 := by
  unfold ext; split
  · exact hc _
  · simp

theorem accTot_rest : total (rest (accTot C lo hi)) (ix2 r 0) = ((allSum c lo hi : ℝ) : EReal) := by
  have key := fun l : Fin 128 => (packs_apply (accTot C lo hi) (ix2 r l) ((hi + 127) / 128 - lo / 128) (by omega)
    (fun k => lo ≤ 128 * (lo / 128 + k) + l.val ∧ 128 * (lo / 128 + k) + l.val < hi)
    (fun k => ext c (128 * (lo / 128 + k) + l.val)) (fun k _ => ext_lt C r c hC hc lo hi hlo hhi _) (by
      refine lanesum_apply _ _ _ _ _ fun k hk => ?_
      rw [totTerm_apply C lo hi _ hlo hhi (by omega)]
      split
      · rw [hC]; unfold ext; rw [dif_pos (by omega)]
      · rfl)).2
  rw [total_coe _ _ _ key,
    sum_chunks (fun t => if lo ≤ t ∧ t < hi then ext c t else 0) lo hi hhi (fun t ht => if_neg ht)]
  simp only [ext_val]; rfl

variable (b : FVec Ideal S42x1 .f32) (β : ℝ) (hb : b (ix2 r 0) = ((β : ℝ) : EReal))
include hb

theorem accPos_lane (l : Fin 128) :
    let a := lanesum (posTerm C (addf b (word1 0x46000000#32)) lo hi) (lo / 128) ((hi + 127) / 128 - lo / 128)
    packs a (ix2 r l) = ((∑ k ∈ range ((hi + 127) / 128 - lo / 128),
        if (lo ≤ 128 * (lo / 128 + k) + l.val ∧ 128 * (lo / 128 + k) + l.val < hi) ∧ β < ext c (128 * (lo / 128 + k) + l.val)
          then 1 else 0 : ℝ) : EReal) ∧
      rest a (ix2 r l) = ((∑ k ∈ range ((hi + 127) / 128 - lo / 128),
        if (lo ≤ 128 * (lo / 128 + k) + l.val ∧ 128 * (lo / 128 + k) + l.val < hi) ∧ β < ext c (128 * (lo / 128 + k) + l.val)
          then ext c (128 * (lo / 128 + k) + l.val) else 0 : ℝ) : EReal) := by
  refine packs_apply _ (ix2 r l) ((hi + 127) / 128 - lo / 128) (by omega)
    (fun k => (lo ≤ 128 * (lo / 128 + k) + l.val ∧ 128 * (lo / 128 + k) + l.val < hi) ∧ β < ext c (128 * (lo / 128 + k) + l.val))
    (fun k => ext c (128 * (lo / 128 + k) + l.val)) (fun k _ => ext_lt C r c hC hc lo hi hlo hhi _) ?_
  refine lanesum_apply _ _ _ _ _ fun k hk => ?_
  rw [posTerm_apply C _ lo hi _ hlo hhi (by omega)]
  have hb' : addf b (word1 0x46000000#32) (ix2 r 0) = ((β + 8192 : ℝ) : EReal) := by
    show b (ix2 r 0) + Ideal.ofBits .f32 0x46000000#32 = _
    rw [hb, word_pack, ← EReal.coe_add]
  have he : C (ix2 r ⟨128 * (lo / 128 + k) + l.val, by omega⟩) = ((ext c (128 * (lo / 128 + k) + l.val) + 8192 : ℝ) : EReal) := by
    rw [hC]; unfold ext; rw [dif_pos (by omega)]
  simp only [hb', he, EReal.coe_lt_coe_iff, add_lt_add_iff_right]
  split <;> rfl

theorem accPos_count :
    count (lanesum (posTerm C (addf b (word1 0x46000000#32)) lo hi) (lo / 128) ((hi + 127) / 128 - lo / 128)) (ix2 r 0)
      = ((cnt c β lo hi : ℝ) : EReal) := by
  unfold count
  rw [total_coe _ _ _ fun l => (accPos_lane C r c hC hc lo hi hlo hhi b β hb l).1,
    sum_chunks (fun t => if (lo ≤ t ∧ t < hi) ∧ β < ext c t then 1 else 0) lo hi hhi (fun t ht => if_neg fun h => ht h.1)]
  simp only [ext_val]; rfl

theorem accPos_rest :
    total (rest (lanesum (posTerm C (addf b (word1 0x46000000#32)) lo hi) (lo / 128) ((hi + 127) / 128 - lo / 128))) (ix2 r 0)
      = ((posSum c β lo hi : ℝ) : EReal) := by
  rw [total_coe _ _ _ fun l => (accPos_lane C r c hC hc lo hi hlo hhi b β hb l).2,
    sum_chunks (fun t => if (lo ≤ t ∧ t < hi) ∧ β < ext c t then ext c t else 0) lo hi hhi (fun t ht => if_neg fun h => ht h.1)]
  simp only [ext_val]; rfl

end

/-! ## The features -/

/-- The threshold of the quotient's denominator. -/
def eps : EReal := Ideal.ofBits .f32 0x322BCC77#32

/-- The normalised sum of positive differences, from the sums. -/
def ratio (c : Fin 2048 → ℝ) (β : ℝ) (lo hi : Nat) (L : ℝ) : EReal :=
  Ideal.div ((posSum c β lo hi - cnt c β lo hi * β : ℝ) : EReal)
    (max ((2 * (posSum c β lo hi - cnt c β lo hi * β) - (allSum c lo hi - L * β) : ℝ) : EReal) eps)

/-- The way to form the share divides by `L`. -/
def Share.Divides (s : Share) (L : ℝ) : Prop :=
  match s with
  | .word w => Ideal.ofBits .f32 w = ((L⁻¹ : ℝ) : EReal)
  | .name n w => (Named.named (F := Ideal) (φ := .f32) κ n w : EReal) = ((L⁻¹ : ℝ) : EReal)
  | .quot w => Ideal.ofBits .f32 w = ((L : ℝ) : EReal)

theorem share_apply (s : Share) (L : ℝ) (hL : L ≠ 0) (hs : s.Divides L) (v : FVec Ideal S42x1 .f32) (i : S42x1.Idx) (x : ℝ)
    (hv : v i = ((x : ℝ) : EReal)) : share s v i = ((x / L : ℝ) : EReal) := by
  cases s with
  | word w =>
    show v i * Ideal.ofBits .f32 w = _
    rw [hv, show Ideal.ofBits .f32 w = _ from hs, ← EReal.coe_mul, div_eq_mul_inv]
  | name n w =>
    show v i * (Named.named (F := Ideal) (φ := .f32) κ n w : EReal) = _
    rw [hv, show (Named.named (F := Ideal) (φ := .f32) κ n w : EReal) = _ from hs, ← EReal.coe_mul, div_eq_mul_inv]
  | quot w =>
    show Ideal.div (v i) (Ideal.ofBits .f32 w) = _
    rw [hv, show Ideal.ofBits .f32 w = _ from hs]
    rw [Ideal.div_coe hL, ← EReal.coe_mul, mul_one_div]

theorem col_apply {nf : Nat} (b : FVec Ideal (Sh 42 nf) .f32) (f : Nat) (hf : f < nf) (r : Fin 42) :
    col b f (ix2 r 0) = b (ix2 r ⟨f, hf⟩) := by
  unfold col
  split
  · obtain rfl : f = 0 := by omega
    rfl
  · rw [dif_pos (by omega)]
    exact extractStridedSlice_apply _ _ _ _ _ fun a => match a with
      | ⟨0, _⟩ => by simp [ix2]
      | ⟨1, _⟩ => by simp [ix2]

theorem bias_apply {nf : Nat} (b : Vec Ideal ⟨3, ![1, 42, nf]⟩ .f32) (r : Fin 42) (f : Fin nf) :
    shapeCast (Sh 42 nf) b (biasCasts nf) (ix2 r f) = b (ix3 0 r f) :=
  shapeCast_apply _ _ _ _ (by
    rw [Shape.rowMajor_val_three, Shape.rowMajor_val_two]
    show (0 * 42 + r.val) * nf + f.val = r.val * nf + f.val
    rw [Nat.zero_mul, Nat.zero_add])

theorem relu_apply (a : FVec Ideal S42x128 .f32) (b : FVec Ideal S42x1 .f32) (i : S42x1.Idx) :
    relu a b i = ((total (rest a) i : EReal) - (count a i : EReal) * (b i : EReal) : EReal) := rfl

theorem quot_apply (a t : FVec Ideal S42x128 .f32) (b : FVec Ideal S42x1 .f32) (len : BitVec 32) (i : S42x1.Idx) :
    quot a t b len i = Ideal.div (relu a b i) (max (((2 : ℝ) : EReal) * (relu a b i : EReal)
      - ((total (rest t) i : EReal) - Ideal.ofBits .f32 len * (b i : EReal))) eps) := by
  rw [← word_two]; rfl

section
variable {nf : Nat} (hnf : 1 ≤ nf) (C : FVec Ideal S42x2048 .f32) (b : Vec Ideal ⟨3, ![1, 42, nf]⟩ .f32) (lo hi : Nat)
  (len : BitVec 32) (s : Share) (r : Fin 42) (c : Fin 2048 → ℝ)
  (hC : ∀ t, C (ix2 r t) = ((c t + 8192 : ℝ) : EReal)) (hc : ∀ t, |c t| < 256) (hlo : lo ≤ 2048) (hhi : hi ≤ 2048)
  (L : ℝ) (hL : L ≠ 0) (hlen : Ideal.ofBits .f32 len = ((L : ℝ) : EReal)) (hs : s.Divides L)
  (f : Fin nf) (β : ℝ) (hb : b (ix3 0 r f) = ((β : ℝ) : EReal))
include hC hc hlo hhi hb

theorem block_apply (n : Fin (2 * nf)) (k : Nat) (hk : n.val = k) (x : FVec Ideal S42x1 .f32)
    (hx : (cols C (shapeCast (Sh 42 nf) b (biasCasts nf)) lo hi len s)[k]? = some ⟨S42x1, x⟩) :
    block hnf C b lo hi len s (ix4 0 0 r n) = x (ix2 r 0) := by
  unfold block
  rw [shapeCast_apply _ _ _ (ix2 r n) (by
    rw [Shape.rowMajor_val_four, Shape.rowMajor_val_two]
    show r.val * (2 * nf) + n.val = ((0 * 1 + 0) * 42 + r.val) * (2 * nf) + n.val
    simp)]
  obtain ⟨hk', hx'⟩ := List.getElem?_eq_some_iff.mp hx
  refine concatenate_apply_piece (t := Sh 42 (2 * nf)) (1 : Fin 2) _ _ _ k hk' S42x1 x hx' rfl k ?_ (ix2 r 0) ?_ ?_
  · rw [List.map_take, cols_shapes, List.take_replicate, List.map_replicate]
    have : min k (2 * nf) = k := by have := n.isLt; omega
    rw [this]
    simp [Sh, S42x1]
  · intro a ha
    match a with
    | ⟨0, _⟩ => rfl
    | ⟨1, _⟩ => exact absurd rfl ha
  · show k + 0 = n.val
    omega

include hL hs in
theorem block_share : block hnf C b lo hi len s (ix4 0 0 r ⟨f.val, by omega⟩) = ((cnt c β lo hi / L : ℝ) : EReal) := by
  rw [block_apply hnf C b lo hi len s r c hC hc hlo hhi f β hb ⟨f.val, by omega⟩ f.val rfl
    (share s (count (accPos C (shapeCast (Sh 42 nf) b (biasCasts nf)) lo hi f.val)))
    (by unfold cols; rw [List.getElem?_append_left (by simp)]; simp)]
  exact share_apply s L hL hs _ _ _ (accPos_count C r c hC hc lo hi hlo hhi _ β
    (by rw [col_apply _ _ f.isLt, bias_apply]; exact hb))

include hlen in
theorem block_ratio : block hnf C b lo hi len s (ix4 0 0 r ⟨nf + f.val, by omega⟩) = ratio c β lo hi L := by
  have hcol : col (F := Ideal) (shapeCast (Sh 42 nf) b (biasCasts nf)) f.val (ix2 r 0) = ((β : ℝ) : EReal) := by
    rw [col_apply _ _ f.isLt, bias_apply]; exact hb
  rw [block_apply hnf C b lo hi len s r c hC hc hlo hhi f β hb ⟨nf + f.val, by omega⟩ (nf + f.val) rfl
    (quot (accPos C (shapeCast (Sh 42 nf) b (biasCasts nf)) lo hi f.val) (accTot C lo hi)
      (col (F := Ideal) (shapeCast (Sh 42 nf) b (biasCasts nf)) f.val) len)
    (by unfold cols; rw [List.getElem?_append_right (by simp)]; simp)]
  have h1 := accPos_count C r c hC hc lo hi hlo hhi _ β hcol
  have h2 := accPos_rest C r c hC hc lo hi hlo hhi _ β hcol
  have h3 := accTot_rest C r c hC hc lo hi hlo hhi
  have hr : relu (accPos C (shapeCast (Sh 42 nf) b (biasCasts nf)) lo hi f.val)
      (col (F := Ideal) (shapeCast (Sh 42 nf) b (biasCasts nf)) f.val) (ix2 r 0)
      = ((posSum c β lo hi - cnt c β lo hi * β : ℝ) : EReal) := by
    rw [relu_apply, hcol]
    unfold accPos
    rw [h1, h2, ← EReal.coe_mul, ← EReal.coe_sub]
  rw [quot_apply, hr, hcol, h3, hlen, ← EReal.coe_mul, ← EReal.coe_mul, ← EReal.coe_sub, ← EReal.coe_sub]
  rfl

end
end Cert.Feat
-- ==== Proof.Feat.Ref.lean ====
/- The reference's value in named stages. -/
module

public import proofs.«01_k».proof.Proof.Gen.ReferenceIdeal
public import proofs.«01_k».proof.Proof.Gen.ReferenceIdeal.Run

@[expose] public section

set_option maxRecDepth 8192

noncomputable section

namespace Cert.Feat.Ref

open Cert.ReferenceIdeal Cert.ReferenceIdeal.Gen Idealize.ShloMosaic Idealize.ShloMosaic.TcCoe Idealize.SL.Sem

variable {F : FTy → Type} [FloatOps F]

/-- Where each tap of each dilation starts in the padded row, plus the position. -/
def place : IVec S26x9x2048 32 :=
  addi (broadcastInDim S26x9x2048 ![0, 1, 2] bcast_S26x9x1_S26x9x2048_0_1_2
      (broadcastInDim S26x9x1 ![0, 1] bcast_S26x9_S26x9x1_0_1 (fun i => lit0 (S26x9.rowMajor i))))
    (broadcastInDim S26x9x2048 ![0, 1, 2] bcast_S1x1x2048_S26x9x2048_0_1_2
      (broadcastInDim S1x1x2048 ![2] bcast_S2048_S1x1x2048_2 (iotaInDim S2048 32 0)))

def places : IVec S26x9x2048x1 32 :=
  broadcastInDim S26x9x2048x1 ![0, 1, 2] bcast_S26x9x2048_S26x9x2048x1_0_1_2
    (select (cmpi .slt place (broadcastInDim S26x9x2048 ![] bcast_S_S26x9x2048 (constantI S_ 32 0#32)))
      (addi place (broadcastInDim S26x9x2048 ![] bcast_S_S26x9x2048 (constantI S_ 32 4088#32))) place)

/-- The taps, -/
def taps (X : FVec F S32x9x2048 .f32) : FVec F S32x9x26x9x2048 .f32 :=
  Host.gather gather_S32x9x4088_S26x9x2048x1_S32x9x26x9x2048_01_2_n_n_2_3_3291
    (pad S32x9x4088 ![0, 0, 1020] ![0, 0, 1020] ![0, 0, 0] X (sitofp .f32 (constantI S_ 32 0#32))
      pads_S32x9x2048_S32x9x4088_000_000_102010200 h_S_) places

/-- their combination over the taps, -/
def each (X : FVec F S32x9x2048 .f32) (K : FVec F S756x1x9 .f32) : FVec F S9x84x32x26x2048 .f32 :=
  Host.dotGeneral dot_S9x84x9_S32x9x26x9x2048_S9x84x32x26x2048_2_3_1_024_0_1 none
    (shapeCast S9x84x9 K shapeCasts_S756x1x9_S9x84x9) (taps X)

/-- and over the channels. -/
def both (X : FVec F S32x9x2048 .f32) (K : FVec F S756x1x9 .f32) (M : FVec F S26x9x84 .f32) : FVec F S26x84x32x2048 .f32 :=
  Host.dotGeneral dot_S26x9x84_S32x26x9x84x2048_S26x84x32x2048_1_2_n_04_02_13 none M
    (transpose S32x26x9x84x2048 [2, 3, 0, 1, 4] (each X K) transposes_S9x84x32x26x2048_S32x26x9x84x2048_2_3_0_1_4)

def convs (X : FVec F S32x9x2048 .f32) (K : FVec F S756x1x9 .f32) (M : FVec F S26x9x84 .f32) : FVec F S26x32x84x2048 .f32 :=
  transpose S26x32x84x2048 [0, 2, 1, 3] (both X K M) transposes_S26x84x32x2048_S26x32x84x2048_0_2_1_3

def ofs : IVec S59x1 32 :=
  broadcastInDim S59x1 ![0] bcast_S59_S59x1_0
    (select (cmpi .slt (fun i => lit1 (S59.rowMajor i)) (broadcastInDim S59 ![] bcast_S_S59 (constantI S_ 32 0#32)))
      (addi (fun i => lit1 (S59.rowMajor i)) (broadcastInDim S59 ![] bcast_S_S59 (constantI S_ 32 26#32)))
      (fun i => lit1 (S59.rowMajor i)))

/-- One convolution per feature. -/
def perFeature (C : FVec F S26x32x84x2048 .f32) : FVec F S59x32x84x2048 .f32 :=
  Host.gather gather_S26x32x84x2048_S59x1_S59x32x84x2048_123_0_n_n_0_1_132842048 C ofs

def pads : IVec S59x1x1 32 := broadcastInDim S59x1x1 ![0] bcast_S59_S59x1x1_0 (fun i => lit3 (S59.rowMajor i))

def whole : IVec S59x84x1 1 :=
  cmpi .eq (broadcastInDim S59x84x1 ![0, 1, 2] bcast_S1x84x1_S59x84x1_0_1_2
      (andi (broadcastInDim S1x84x1 ![1] bcast_S84_S1x84x1_1 (iotaInDim S84 32 0))
        (broadcastInDim S1x84x1 ![] bcast_S_S1x84x1 (constantI S_ 32 1#32))))
    (broadcastInDim S59x84x1 ![0, 1, 2] bcast_S59x1x1_S59x84x1_0_1_2
      (broadcastInDim S59x1x1 ![0] bcast_S59_S59x1x1_0 (fun i => lit2 (S59.rowMajor i))))

def posn : IVec S1x1x2048 32 := broadcastInDim S1x1x2048 ![2] bcast_S2048_S1x1x2048_2 (iotaInDim S2048 32 0)

def inside : IVec S59x1x2048 1 :=
  andi (cmpi .sle (broadcastInDim S59x1x2048 ![0, 1, 2] bcast_S59x1x1_S59x1x2048_0_1_2 pads)
      (broadcastInDim S59x1x2048 ![0, 1, 2] bcast_S1x1x2048_S59x1x2048_0_1_2 posn))
    (cmpi .slt (broadcastInDim S59x1x2048 ![0, 1, 2] bcast_S1x1x2048_S59x1x2048_0_1_2 posn)
      (broadcastInDim S59x1x2048 ![0, 1, 2] bcast_S59x1x1_S59x1x2048_0_1_2
        (subi (broadcastInDim S59x1x1 ![] bcast_S_S59x1x1 (constantI S_ 32 2048#32)) pads)))

/-- Which positions each feature pools over, -/
def valid : IVec S59x32x84x2048 1 :=
  broadcastInDim S59x32x84x2048 ![0, 1, 2, 3] bcast_S59x1x84x2048_S59x32x84x2048_0_1_2_3
    (broadcastInDim S59x1x84x2048 ![0, 2, 3] bcast_S59x84x2048_S59x1x84x2048_0_2_3
      (ori (broadcastInDim S59x84x2048 ![0, 1, 2] bcast_S59x84x1_S59x84x2048_0_1_2 whole)
        (broadcastInDim S59x84x2048 ![0, 1, 2] bcast_S59x1x2048_S59x84x2048_0_1_2 inside)))

/-- and how many they are. -/
def lens : FVec F S59x32x84 .f32 :=
  broadcastInDim S59x32x84 ![0, 1, 2] bcast_S59x1x84_S59x32x84_0_1_2 (broadcastInDim S59x1x84 ![0, 2] bcast_S59x84_S59x1x84_0_2
    (shapeCast S59x84 (sitofp .f32 (select whole
      (broadcastInDim S59x84x1 ![] bcast_S_S59x84x1 (id (constantI S_ 32 2048#32)))
      (broadcastInDim S59x84x1 ![0, 1, 2] bcast_S59x1x1_S59x84x1_0_1_2
        (subi (broadcastInDim S59x1x1 ![] bcast_S_S59x1x1 (constantI S_ 32 2048#32))
          (muli (broadcastInDim S59x1x1 ![] bcast_S_S59x1x1 (constantI S_ 32 2#32)) pads))))) shapeCasts_S59x84x1_S59x84))

def cst (w : BitVec 32) : FVec F S59x32x84x2048 .f32 := broadcastInDim S59x32x84x2048 ![] bcast_S_S59x32x84x2048 (constant S_ .f32 w)

def dif (C : FVec F S26x32x84x2048 .f32) (B : FVec F S84x59 .f32) : FVec F S59x32x84x2048 .f32 :=
  subf (perFeature C) (broadcastInDim S59x32x84x2048 ![0, 1, 2, 3] bcast_S59x1x84x1_S59x32x84x2048_0_1_2_3
    (broadcastInDim S59x1x84x1 ![0, 2] bcast_S59x84_S59x1x84x1_0_2 (transpose S59x84 [1, 0] B transposes_S84x59_S59x84_1_0)))

def sums (v : FVec F S59x32x84x2048 .f32) : FVec F S59x32x84 .f32 :=
  Host.reduceAdd v (constant S_ .f32 0x00000000#32) reducesTo_S59x32x84x2048_S59x32x84_d3 h_S_

def counts (C : FVec F S26x32x84x2048 .f32) (B : FVec F S84x59 .f32) : FVec F S59x32x84 .f32 :=
  sums (id (select (andi valid (cmpf .ogt (dif C B) (cst 0x00000000#32))) (cst 0x3F800000#32) (cst 0x00000000#32)))

def relus (C : FVec F S26x32x84x2048 .f32) (B : FVec F S84x59 .f32) : FVec F S59x32x84 .f32 :=
  sums (select valid (maximumf (dif C B) (cst 0x00000000#32)) (cst 0x00000000#32))

def abss (C : FVec F S26x32x84x2048 .f32) (B : FVec F S84x59 .f32) : FVec F S59x32x84 .f32 :=
  sums (select valid (Host.absf (dif C B)) (cst 0x00000000#32))

def shares (C : FVec F S26x32x84x2048 .f32) (B : FVec F S84x59 .f32) : FVec F S59x32x84 .f32 :=
  Host.divf (counts C B) lens

def ratios (C : FVec F S26x32x84x2048 .f32) (B : FVec F S84x59 .f32) : FVec F S59x32x84 .f32 :=
  Host.divf (relus C B) (maximumf (abss C B) (broadcastInDim S59x32x84 ![] bcast_S_S59x32x84 (constant S_ .f32 0x322BCC77#32)))

def flat (v : FVec F S59x32x84 .f32) : FVec F S32x4956 .f32 :=
  shapeCast S32x4956 (transpose S32x84x59 [1, 2, 0] v transposes_S59x32x84_S32x84x59_1_2_0) shapeCasts_S32x84x59_S32x4956

def stats (C : FVec F S26x32x84x2048 .f32) (B : FVec F S84x59 .f32) : FVec F S32x9912 .f32 :=
  concatenate S32x9912 1 [⟨S32x4956, flat (shares C B)⟩, ⟨S32x4956, flat (ratios C B)⟩] concatenates_S32x4956_S32x4956_S32x9912_d1

def orders : IVec S9912x1 32 :=
  broadcastInDim S9912x1 ![0] bcast_S9912_S9912x1_0
    (select (cmpi .slt (fun i => lit4 (S9912.rowMajor i)) (broadcastInDim S9912 ![] bcast_S_S9912 (constantI S_ 32 0#32)))
      (addi (fun i => lit4 (S9912.rowMajor i)) (broadcastInDim S9912 ![] bcast_S_S9912 (constantI S_ 32 9912#32)))
      (fun i => lit4 (S9912.rowMajor i)))

def result (X : FVec F S32x9x2048 .f32) (K : FVec F S756x1x9 .f32) (M : FVec F S26x9x84 .f32) (B : FVec F S84x59 .f32) :
    FVec F S32x9912 .f32 :=
  Host.gather gather_S32x9912_S9912x1_S32x9912_0_1_n_n_1_1_321 (stats (convs X K M) B) orders

theorem out_eq (m : (ℓ : Loc nD τ sig) → Buf (Elt F) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3)) := by
  unfold Value.res_out0 Value.res_main_v91
  rfl

end Cert.Feat.Ref
-- ==== Proof.Feat.RefConv.lean ====
/- The reference's combined convolution at an index: the sum over channels and taps. -/
module

public import proofs.«01_k».proof.Proof.Feat.Ref
public import Idealize.ShloMosaic.Lib.Pointwise
public import Idealize.ShloMosaic.Lib.Pipeline.Value

@[expose] public section

set_option maxRecDepth 16384

noncomputable section

namespace Cert.Feat

open Idealize.ShloMosaic Idealize.ShloMosaic.TcCoe Idealize.SL.Sem

/-- The dilations. -/
def dl : Fin 26 → Nat :=
  ![1, 2, 3, 4, 5, 7, 8, 10, 12, 14, 17, 20, 25, 29, 35, 42, 51, 61, 73, 87, 104, 125, 149, 178, 213, 255]

theorem dl_le : ∀ i, dl i ≤ 255 := by decide

/-- A gather at an index, from the operand's index. -/
theorem gather_at {α : Type} {s si t : Shape} {w : Nat} (d : GatherDims s si t) (x : s.Idx → α) (idx : IVec si w) (j : t.Idx)
    (k : s.Idx) (h : ∀ a, d.start j idx a + d.batchCoord j a + d.offCoord j a = (k a).val) : Host.gather d x idx j = x k := by
  unfold Host.gather
  exact congrArg x (funext fun a => Fin.ext (h a))

/-- A word of a number below the sign bit. -/
theorem word_toInt (n : Nat) (h : n < 2147483648) : (BitVec.ofNat 32 n).toInt = n := by
  rw [BitVec.toInt_eq_toNat_of_lt (by rw [BitVec.toNat_ofNat]; omega), BitVec.toNat_ofNat]; omega

/-- The wrapped index of a word of a small number is that word. -/
theorem wrap_word (n : Nat) (h : n < 2147483648) (y : BitVec 32) :
    Scalar.select (IntOp.cmpi .slt (BitVec.ofNat 32 n) 0#32) y (BitVec.ofNat 32 n) = BitVec.ofNat 32 n := by
  have : (BitVec.ofNat 32 n).slt 0#32 = false := by
    simp only [BitVec.slt, word_toInt n h]
    simp
  simp [IntOp.cmpi, this, Scalar.select]

/-- The row of `X` at a tap of dilation `i`, nothing outside its range. -/
def tap (X : FVec Ideal ⟨3, ![32, 9, 2048]⟩ .f32) (b : Fin 32) (c : Fin 9) (i : Fin 26) (t : Fin 9) (l : Fin 2048) : EReal :=
  if h : 4 * dl i ≤ l.val + t.val * dl i ∧ l.val + t.val * dl i < 2048 + 4 * dl i then
    X (ix3 b c ⟨l.val + t.val * dl i - 4 * dl i, by omega⟩)
  else 0

/-- A channel's filter among all the filters. -/
def chan (c : Fin 9) (k : Fin 84) : Fin 756 := ⟨c.val * 84 + k.val, by omega⟩

/-- The combined convolution. -/
def refConv (X : FVec Ideal ⟨3, ![32, 9, 2048]⟩ .f32) (K : FVec Ideal ⟨3, ![756, 1, 9]⟩ .f32)
    (M : FVec Ideal ⟨3, ![26, 9, 84]⟩ .f32) (i : Fin 26) (b : Fin 32) (k : Fin 84) (l : Fin 2048) : EReal :=
  ∑ c : Fin 9, (M (ix3 i c k) : EReal) * ∑ t : Fin 9, (K (ix3 ⟨c.val * 84 + k.val, by omega⟩ 0 t) : EReal) * tap X b c i t l

namespace Ref
open Cert.ReferenceIdeal Cert.ReferenceIdeal.Gen

theorem start_word : ∀ (i : Fin 26) (t : Fin 9),
    lit0 (S26x9.rowMajor (ix2 i t)) = BitVec.ofNat 32 (1020 + t.val * dl i - 4 * dl i) := by decide +kernel

theorem place_apply (i : Fin 26) (t : Fin 9) (l : Fin 2048) :
    place (ix3 i t l) = BitVec.ofNat 32 (1020 + t.val * dl i - 4 * dl i + l.val) := by
  have h := start_word i t
  unfold place
  pointwise
  rw [h]
  exact (BitVec.ofNat_add _ _).symm

theorem places_apply (i : Fin 26) (t : Fin 9) (l : Fin 2048) :
    places (ix4 i t l 0) = BitVec.ofNat 32 (1020 + t.val * dl i - 4 * dl i + l.val) := by
  have h := place_apply i t l
  have h1 := dl_le i
  unfold places
  pointwise
  rw [h]
  exact wrap_word _ (by have := t.isLt; have := l.isLt; have : t.val * dl i ≤ 8 * dl i := Nat.mul_le_mul (by omega) (le_refl _); omega) _

theorem zero_word : (FloatOps.sitofp (F := Ideal) .f32 (0#32 : BitVec 32)) = (0 : EReal) := by
  show (((0#32 : BitVec 32).toInt : ℝ) : EReal) = 0
  simp

theorem taps_apply (X : FVec Ideal S32x9x2048 .f32) (b : Fin 32) (c : Fin 9) (i : Fin 26) (t : Fin 9) (l : Fin 2048) :
    taps X (ix5 b c i t l) = tap X b c i t l := by
  have h1 := dl_le i
  have h2 : t.val * dl i ≤ 8 * dl i := Nat.mul_le_mul (by omega) (le_refl _)
  have h3 : (places (ix4 i t l 0)).toInt.toNat = 1020 + t.val * dl i - 4 * dl i + l.val := by
    rw [places_apply, word_toInt _ (by omega)]; rfl
  unfold taps
  rw [gather_at _ _ _ _ (ix3 b c (⟨1020 + t.val * dl i - 4 * dl i + l.val, by omega⟩ : Fin 4088)) (fun a => ?_)]
  · unfold tap
    pointwise
    by_cases h : 4 * dl i ≤ l.val + t.val * dl i ∧ l.val + t.val * dl i < 2048 + 4 * dl i
    · rw [dif_pos h, dif_pos (by omega)]
      congr 2
      exact Fin.ext (by show 1020 + t.val * dl i - 4 * dl i + l.val - 1020 = l.val + t.val * dl i - 4 * dl i; omega)
    · rw [dif_neg h, dif_neg (by omega)]
      exact zero_word
  · match a with
    | ⟨0, _⟩ => exact (Nat.zero_add _)
    | ⟨1, _⟩ => exact (Nat.zero_add _)
    | ⟨2, _⟩ =>
      have hs : gather_S32x9x4088_S26x9x2048x1_S32x9x26x9x2048_01_2_n_n_2_3_3291.siIdx (ix5 b c i t l) ⟨0, by decide⟩
          = ix4 i t l 0 := by
        funext a
        match a with
        | ⟨0, _⟩ => rfl
        | ⟨1, _⟩ => rfl
        | ⟨2, _⟩ => rfl
        | ⟨3, _⟩ => rfl
      show min (places (gather_S32x9x4088_S26x9x2048x1_S32x9x26x9x2048_01_2_n_n_2_3_3291.siIdx (ix5 b c i t l) ⟨0, by decide⟩)).toInt.toNat 4087
        + 0 + 0 = 1020 + t.val * dl i - 4 * dl i + l.val
      rw [hs, h3]; omega

theorem convs_apply (X : FVec Ideal S32x9x2048 .f32) (K : FVec Ideal S756x1x9 .f32) (M : FVec Ideal S26x9x84 .f32)
    (i : Fin 26) (b : Fin 32) (k : Fin 84) (l : Fin 2048) : convs X K M (ix4 i b k l) = refConv X K M i b k l := by
  unfold convs both each
  pointwise
  simp only [taps_apply]
  rfl

end Ref
end Cert.Feat
-- ==== Proof.Feat.RefAt.lean ====
/- The reference's features at an index, from the real values of its convolutions. -/
module

public import proofs.«01_k».proof.Proof.Feat.RefConv
public import proofs.«01_k».proof.Proof.Feat.Block

@[expose] public section

set_option maxRecDepth 16384

noncomputable section

namespace Cert.Feat

open Idealize.ShloMosaic Idealize.ShloMosaic.TcCoe Idealize.SL.Sem
open Finset

/-- The dilation of a feature. -/
def dof (f : Fin 59) : Fin 26 :=
  ![0, 0, 0, 0, 0, 0, 0, 0, 1, 1, 1, 1, 1, 1, 2, 2, 3, 3, 4, 4, 4, 4, 5, 5, 6, 6, 7, 7, 8, 8, 9, 9, 10, 10, 11, 11, 12, 12,
    13, 13, 14, 14, 15, 15, 16, 16, 17, 17, 18, 18, 19, 19, 20, 20, 21, 22, 23, 24, 25] f

/-- The range that a feature of a filter pools over. -/
def lo (f : Fin 59) (k : Fin 84) : Nat := if k.val % 2 = (dof f).val % 2 then 0 else 4 * dl (dof f)
def hi (f : Fin 59) (k : Fin 84) : Nat := if k.val % 2 = (dof f).val % 2 then 2048 else 2048 - 4 * dl (dof f)

theorem lo_le (f : Fin 59) (k : Fin 84) : lo f k ≤ 1020 := by
  have := dl_le (dof f); unfold lo; split <;> omega
theorem hi_le (f : Fin 59) (k : Fin 84) : hi f k ≤ 2048 := by
  unfold hi; split <;> omega
theorem lt_hi (f : Fin 59) (k : Fin 84) : 1028 ≤ hi f k := by
  have := dl_le (dof f); unfold hi; split <;> omega

namespace Ref
open Cert.ReferenceIdeal Cert.ReferenceIdeal.Gen

theorem of_word : ∀ f : Fin 59, lit1 (S59.rowMajor (ix1 f)) = BitVec.ofNat 32 (dof f).val := by decide +kernel
theorem parity_word : ∀ f : Fin 59, lit2 (S59.rowMajor (ix1 f)) = BitVec.ofNat 32 ((dof f).val % 2) := by decide +kernel
theorem pad_word : ∀ f : Fin 59, lit3 (S59.rowMajor (ix1 f)) = BitVec.ofNat 32 (4 * dl (dof f)) := by decide +kernel
theorem twice_word : ∀ f : Fin 59, IntOp.subi 2048#32 (IntOp.muli 2#32 (BitVec.ofNat 32 (4 * dl (dof f))))
    = BitVec.ofNat 32 (2048 - 8 * dl (dof f)) := by decide +kernel
theorem once_word : ∀ f : Fin 59, IntOp.subi 2048#32 (BitVec.ofNat 32 (4 * dl (dof f)))
    = BitVec.ofNat 32 (2048 - 4 * dl (dof f)) := by decide +kernel
theorem filter_word : ∀ k : Fin 84, IntOp.andi (BitVec.ofNat 32 k.val) 1#32 = BitVec.ofNat 32 (k.val % 2) := by decide +kernel

theorem ofs_apply (f : Fin 59) : ofs (ix2 f 0) = BitVec.ofNat 32 (dof f).val := by
  have h := of_word f
  unfold ofs
  pointwise
  rw [h]
  exact wrap_word _ (by have := (dof f).isLt; omega) _

theorem perFeature_apply (C : FVec Ideal S26x32x84x2048 .f32) (f : Fin 59) (b : Fin 32) (k : Fin 84) (t : Fin 2048) :
    perFeature C (ix4 f b k t) = C (ix4 (dof f) b k t) := by
  unfold perFeature
  rw [gather_at _ _ _ _ (ix4 (dof f) b k t) (fun a => ?_)]
  match a with
  | ⟨0, _⟩ =>
    have hs : gather_S26x32x84x2048_S59x1_S59x32x84x2048_123_0_n_n_0_1_132842048.siIdx (ix4 f b k t) ⟨0, by decide⟩
        = ix2 f 0 := by
      funext a
      match a with
      | ⟨0, _⟩ => rfl
      | ⟨1, _⟩ => rfl
    show min (ofs (gather_S26x32x84x2048_S59x1_S59x32x84x2048_123_0_n_n_0_1_132842048.siIdx (ix4 f b k t) ⟨0, by decide⟩)).toInt.toNat 25
      + 0 + 0 = (dof f).val
    have := (dof f).isLt
    rw [hs, ofs_apply, word_toInt _ (by omega)]; omega
  | ⟨1, _⟩ => exact (Nat.zero_add _)
  | ⟨2, _⟩ => exact (Nat.zero_add _)
  | ⟨3, _⟩ => exact (Nat.zero_add _)

theorem cmp_sle (a b : Nat) (ha : a < 2147483648) (hb : b < 2147483648) :
    IntOp.cmpi .sle (BitVec.ofNat 32 a) (BitVec.ofNat 32 b) = BitVec.ofBool (decide (a ≤ b)) := by
  simp only [IntOp.cmpi, BitVec.sle, word_toInt a ha, word_toInt b hb]
  congr 2
  simp only [eq_iff_iff]; omega

theorem cmp_slt (a b : Nat) (ha : a < 2147483648) (hb : b < 2147483648) :
    IntOp.cmpi .slt (BitVec.ofNat 32 a) (BitVec.ofNat 32 b) = BitVec.ofBool (decide (a < b)) := by
  simp only [IntOp.cmpi, BitVec.slt, word_toInt a ha, word_toInt b hb]
  congr 2
  simp only [eq_iff_iff]; omega

theorem cmp_eq : ∀ a b : Fin 2, IntOp.cmpi .eq (BitVec.ofNat 32 a.val) (BitVec.ofNat 32 b.val) = BitVec.ofBool (decide (a.val = b.val)) := by
  decide

theorem whole_apply (f : Fin 59) (k : Fin 84) :
    whole (ix3 f k 0) = BitVec.ofBool (decide (k.val % 2 = (dof f).val % 2)) := by
  have h1 := parity_word f
  have h2 := filter_word k
  unfold whole
  pointwise
  rw [h1, h2]
  exact cmp_eq ⟨k.val % 2, Nat.mod_lt _ (by decide)⟩ ⟨(dof f).val % 2, Nat.mod_lt _ (by decide)⟩

theorem pads_apply (f : Fin 59) : pads (ix3 f 0 0) = BitVec.ofNat 32 (4 * dl (dof f)) := by
  have h1 := pad_word f
  unfold pads
  pointwise
  exact h1

theorem valid_apply (f : Fin 59) (b : Fin 32) (k : Fin 84) (t : Fin 2048) :
    valid (ix4 f b k t) = BitVec.ofBool (decide (lo f k ≤ t.val ∧ t.val < hi f k)) := by
  have h1 := whole_apply f k
  have h2 := pads_apply f
  have h3 := once_word f
  have h4 := dl_le (dof f)
  have h5 := t.isLt
  unfold valid inside posn
  pointwise
  rw [h1, h2, h3, cmp_sle _ _ (by omega) (by omega), cmp_slt _ _ (by omega) (by omega)]
  unfold lo hi
  by_cases h6 : k.val % 2 = (dof f).val % 2 <;> by_cases h7 : 4 * dl (dof f) ≤ t.val <;>
    by_cases h8 : t.val < 2048 - 4 * dl (dof f) <;> simp [h6, h7, h8, h5, IntOp.andi, IntOp.ori]

theorem lens_apply (f : Fin 59) (b : Fin 32) (k : Fin 84) :
    (lens (F := Ideal) (ix3 f b k) : EReal) = (((hi f k : ℝ) - lo f k : ℝ) : EReal) := by
  have h1 := whole_apply f k
  have h2 := pads_apply f
  have h3 := twice_word f
  have h4 := dl_le (dof f)
  unfold lens
  pointwise
  rw [h1, h2, h3]
  have h6 : ∀ n : Nat, n < 2147483648 → (FloatOps.sitofp (F := Ideal) .f32 (BitVec.ofNat 32 n) : EReal) = ((n : ℝ) : EReal) := by
    intro n hn
    show (((BitVec.ofNat 32 n).toInt : ℝ) : EReal) = _
    rw [word_toInt n hn]; norm_cast
  unfold lo hi
  by_cases h7 : k.val % 2 = (dof f).val % 2
  · simp only [h7, if_true]
    refine (h6 2048 (by omega)).trans ?_
    norm_num
  · simp only [h7, if_false]
    refine (h6 (2048 - 8 * dl (dof f)) (by omega)).trans ?_
    rw [Nat.cast_sub (by omega), Nat.cast_sub (by omega)]
    push_cast
    refine congrArg Real.toEReal ?_
    ring

theorem sums_apply (v : FVec Ideal S59x32x84x2048 .f32) (f : Fin 59) (b : Fin 32) (k : Fin 84) (g : Fin 2048 → ℝ)
    (h : ∀ t, v (ix4 f b k t) = ((g t : ℝ) : EReal)) : sums v (ix3 f b k) = ((∑ t, g t : ℝ) : EReal) := by
  unfold sums
  pointwise
  rw [sum_congr rfl fun t _ => h t]
  exact (map_sum (⟨⟨Real.toEReal, rfl⟩, EReal.coe_add⟩ : ℝ →+ EReal) g _).symm

theorem select_ofBool {α : Type} (p : Prop) [Decidable p] (x y : α) :
    Scalar.select (BitVec.ofBool (decide p)) x y = if p then x else y := by
  by_cases h : p <;> simp [h, Scalar.select]

theorem and_ofBool (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

section
variable (C : FVec Ideal S26x32x84x2048 .f32) (B : FVec Ideal S84x59 .f32) (f : Fin 59) (b : Fin 32) (k : Fin 84)
  (c : Fin 2048 → ℝ) (hC : ∀ t, C (ix4 (dof f) b k t) = ((c t : ℝ) : EReal)) (β : ℝ) (hB : B (ix2 k f) = ((β : ℝ) : EReal))
include hC hB

theorem dif_apply (t : Fin 2048) : dif C B (ix4 f b k t) = ((c t - β : ℝ) : EReal) := by
  have h := perFeature_apply C f b k t
  unfold dif
  pointwise
  rw [h, hC, hB]
  rfl

theorem counts_apply : counts C B (ix3 f b k) = ((cnt c β (lo f k) (hi f k) : ℝ) : EReal) := by
  unfold counts
  refine sums_apply _ f b k _ fun t => ?_
  have h1 := valid_apply f b k t
  have h2 := dif_apply C B f b k c hC β hB t
  unfold cst
  simp only [id_eq]
  pointwise
  rw [h1, h2]
  rw [and_ofBool, select_ofBool]
  have h3 : (0 : EReal) < ((c t - β : ℝ) : EReal) ↔ β < c t := by
    rw [← EReal.coe_zero, EReal.coe_lt_coe_iff, sub_pos]
  by_cases h4 : lo f k ≤ t.val ∧ t.val < hi f k <;> by_cases h5 : β < c t
  · rw [if_pos ⟨h4, h3.mpr h5⟩, if_pos (show Above c β _ _ t from ⟨h4, h5⟩)]; rfl
  · rw [if_neg (fun h => h5 (h3.mp h.2)), if_neg (fun h : Above c β _ _ t => h5 h.2)]; rfl
  · rw [if_neg (fun h => h4 h.1), if_neg (fun h : Above c β _ _ t => h4 h.1)]; rfl
  · rw [if_neg (fun h => h4 h.1), if_neg (fun h : Above c β _ _ t => h4 h.1)]; rfl

theorem relus_apply : relus C B (ix3 f b k) = ((posSum c β (lo f k) (hi f k) - cnt c β (lo f k) (hi f k) * β : ℝ) : EReal) := by
  have h : posSum c β (lo f k) (hi f k) - cnt c β (lo f k) (hi f k) * β
      = ∑ t : Fin 2048, if lo f k ≤ t.val ∧ t.val < hi f k then max (c t - β) 0 else 0 := by
    unfold posSum cnt
    rw [sum_mul, ← sum_sub_distrib]
    refine sum_congr rfl fun t _ => ?_
    unfold Above
    by_cases h1 : lo f k ≤ t.val ∧ t.val < hi f k
    · by_cases h2 : β < c t
      · simp [h1, h2, max_eq_left (sub_nonneg.mpr h2.le)]
      · simp [h1, h2, max_eq_right (sub_nonpos.mpr (not_lt.mp h2))]
    · simp [h1]
  rw [h]
  unfold relus
  refine sums_apply _ f b k _ fun t => ?_
  have h1 := valid_apply f b k t
  have h2 := dif_apply C B f b k c hC β hB t
  unfold cst
  pointwise
  rw [h1, h2]
  rw [select_ofBool]
  split
  · rw [← EReal.coe_zero]; exact (EReal.coe_strictMono.monotone.map_max).symm
  · rfl

theorem abss_apply : abss C B (ix3 f b k) = ((2 * (posSum c β (lo f k) (hi f k) - cnt c β (lo f k) (hi f k) * β)
    - (allSum c (lo f k) (hi f k) - ((hi f k : ℝ) - lo f k) * β) : ℝ) : EReal) := by
  have h0 : ((hi f k : ℝ) - lo f k) = ∑ t : Fin 2048, if lo f k ≤ t.val ∧ t.val < hi f k then (1 : ℝ) else 0 := by
    have h1 := lo_le f k
    have h2 := lt_hi f k
    have h3 := hi_le f k
    rw [Fin.sum_univ_eq_sum_range (fun t => if lo f k ≤ t ∧ t < hi f k then (1 : ℝ) else 0) 2048, ← sum_filter,
      sum_const, nsmul_eq_mul, mul_one, ← Nat.cast_sub (by omega), ← Nat.card_Ico]
    congr 2
    ext t
    simp only [mem_Ico, mem_filter, mem_range]; omega
  have h : 2 * (posSum c β (lo f k) (hi f k) - cnt c β (lo f k) (hi f k) * β)
        - (allSum c (lo f k) (hi f k) - ((hi f k : ℝ) - lo f k) * β)
      = ∑ t : Fin 2048, if lo f k ≤ t.val ∧ t.val < hi f k then |c t - β| else 0 := by
    rw [h0]
    unfold posSum cnt allSum
    rw [sum_mul, sum_mul, ← sum_sub_distrib, ← sum_sub_distrib, mul_sum, ← sum_sub_distrib]
    refine sum_congr rfl fun t _ => ?_
    unfold Above
    by_cases h1 : lo f k ≤ t.val ∧ t.val < hi f k
    · by_cases h2 : β < c t
      · simp only [h1, h2, and_self, if_true, abs_of_nonneg (sub_nonneg.mpr h2.le)]; ring
      · simp only [h1, h2, and_self, and_false, if_true, if_false, abs_of_nonpos (sub_nonpos.mpr (not_lt.mp h2))]; ring
    · simp [h1]
  rw [h]
  unfold abss
  refine sums_apply _ f b k _ fun t => ?_
  have h1 := valid_apply f b k t
  have h2 := dif_apply C B f b k c hC β hB t
  unfold cst
  pointwise
  rw [h1, h2]
  rw [select_ofBool]
  split
  · show max ((c t - β : ℝ) : EReal) (-((c t - β : ℝ) : EReal)) = _
    rw [abs_eq_max_neg, ← EReal.coe_neg]; exact (EReal.coe_strictMono.monotone.map_max).symm
  · rfl

theorem shares_apply : shares C B (ix3 f b k) = ((cnt c β (lo f k) (hi f k) / ((hi f k : ℝ) - lo f k) : ℝ) : EReal) := by
  have h1 := counts_apply C B f b k c hC β hB
  have h2 := lens_apply f b k
  have h3 : ((hi f k : ℝ) - lo f k) ≠ 0 := by
    have h1 := lo_le f k
    have h2 := lt_hi f k
    rw [← Nat.cast_sub (by omega)]
    exact Nat.cast_ne_zero.mpr (by omega)
  unfold shares
  show Ideal.div (counts C B (ix3 f b k)) (lens (F := Ideal) (ix3 f b k)) = _
  rw [h1, h2, Ideal.div_coe h3, ← EReal.coe_mul, mul_one_div]

theorem ratios_apply : ratios C B (ix3 f b k) = ratio c β (lo f k) (hi f k) ((hi f k : ℝ) - lo f k) := by
  have h1 := relus_apply C B f b k c hC β hB
  have h2 := abss_apply C B f b k c hC β hB
  unfold ratios ratio
  pointwise
  rw [h1, h2]
  rfl

end

end Ref
end Cert.Feat
-- ==== Proof.Feat.Named.lean ====
/- The constants: the named ones' values, the words of the ranges' lengths. -/
module

public import proofs.«01_k».proof.Proof.Feat.Pieces
public import proofs.«01_k».proof.Proof.Feat.Block
public import proofs.«01_k».proof.Proof.Feat.RefAt

@[expose] public section

noncomputable section

namespace Cert.Feat

open Cert.KernelIdeal Cert.KernelIdeal.Gen Idealize.ShloMosaic Idealize.ShloMosaic.TcCoe Idealize.SL.Sem

theorem word_len : ∀ D ∈ dils, Ideal.ofBits .f32 D.len = ((2048 - 8 * D.d : ℝ) : EReal) := by
  simp only [dils, List.forall_mem_cons]
  repeat' constructor
  all_goals try (simp [Ideal.ofBits, Ideal.ieee, -EReal.coe_mul, -EReal.coe_sub]; norm_num [-EReal.coe_sub])
  exact fun _ h => absurd h List.not_mem_nil

theorem named_of (n : String) (w : BitVec 32) (v : EReal) (h : κ n = some v) :
    (Named.named (F := Ideal) (φ := .f32) κ n w : EReal) = v := IdealRules.named_const.ideal_named_scalar _ _ _ _ h

theorem word_eight : Ideal.ofBits .f32 0x3E000000#32 = (((8 : ℝ)⁻¹ : ℝ) : EReal) := by
  simp [Ideal.ofBits, Ideal.ieee, -EReal.coe_mul]; norm_num
theorem word_all : Ideal.ofBits .f32 0x3A000000#32 = (((2048 : ℝ)⁻¹ : ℝ) : EReal) := by
  simp [Ideal.ofBits, Ideal.ieee, -EReal.coe_mul]; norm_num
theorem word_2048 : Ideal.ofBits .f32 0x45000000#32 = ((2048 : ℝ) : EReal) := by
  simp [Ideal.ofBits, Ideal.ieee, -EReal.coe_mul]; norm_num

/-- Every dilation's share divides by the length of its cropped range. -/
theorem divides : ∀ D ∈ dils, D.sh.Divides (2048 - 8 * D.d) := by
  have hn : ∀ (n : String) (w : BitVec 32) (a : ℝ) (d : Nat), κ n = some ((a⁻¹ : ℝ) : EReal) → a = 2048 - 8 * d →
      (Share.name n w).Divides (2048 - 8 * d) := fun n w a d h ha => by rw [← ha]; exact named_of n w _ h
  have hq := word_len
  simp only [dils, List.forall_mem_cons] at hq ⊢
  obtain ⟨-, -, -, -, -, -, -, -, -, -, -, -, -, -, -, -, -, -, -, -, h5, -, -, h2, -, h0, -⟩ := hq
  refine ⟨?_, ?_, ?_, ?_, ?_, ?_, ?_, ?_, ?_, ?_, ?_, ?_, ?_, ?_, ?_, ?_, ?_, ?_, ?_, ?_, h5, ?_, ?_, h2, ?_, h0, ?_⟩
  · refine word_eight.trans ?_; norm_num
  all_goals first | (refine hn _ _ _ _ rfl ?_; norm_num) | exact fun _ h => absurd h List.not_mem_nil

/-- A dilation of the list has its place's spacing, and its biases are features of that dilation. -/
theorem dils_dl : ∀ D ∈ dils, D.d = dl ⟨D.i, D.hi⟩ ∧ ∀ (f : Nat) (h : f < D.nf), dof ⟨D.off + f, by have := D.hoff; omega⟩ = ⟨D.i, D.hi⟩ := by
  decide +kernel

end Cert.Feat
-- ==== Proof.Feat.Out.lean ====
/- What the body leaves in its output block, at an index. -/
module

public import proofs.«01_k».proof.Proof.Feat.Run
public import proofs.«01_k».proof.Proof.Feat.Named

@[expose] public section

set_option maxRecDepth 16384

noncomputable section

namespace Cert.Feat

open Cert.KernelIdeal Cert.KernelIdeal.Gen Idealize.ShloMosaic Idealize.ShloMosaic.TcCoe Idealize.SL.Sem
open Idealize.ShloMosaic.Tactic

section
variable (c : Dev nD) (i : grid0.Coords)
  (arg1 : Memref sig .tc .vmem S2x9x2048 .f32) (harg1 : arg1.IsWhole)
  (arg2 : Memref sig .tc .vmem S26x2x42x144 .bf16) (harg2 : arg2.IsWhole)
  (arg3 : Memref sig .tc .vmem S2x42x59 .f32) (harg3 : arg3.IsWhole)
  (arg4 : Memref sig .tc .vmem S2x2x42x118 .f32) (harg4 : arg4.IsWhole)
  (x0 : Vec Ideal S2x9x2048 .f32) (x1 : Vec Ideal S26x2x42x144 .bf16) (x2 : Vec Ideal S2x42x59 .f32)

/-- The output block is any function that every store agrees with. -/
theorem out_of_pieces (G : S2x2x42x118.Idx → EReal)
    (h : ∀ D ∈ dils, ∀ p ∈ four arg1 harg1 arg2 harg2 arg3 harg3 x0 x1 x2 D, ∀ x : p.1.shape.Idx, p.2 x = G (p.1.emb x)) :
    out0_A_3 (F := Ideal) c i arg1 harg1 arg2 harg2 arg3 harg3 arg4 harg4 x0 x1 x2 = G := by
  funext y
  unfold out0_A_3
  rw [View.read_writes_eq_canon _ _ _ (cover0_A_3 c i arg1 harg1 arg2 harg2 arg3 harg3 arg4 harg4 x0 x1 x2)]
  refine View.canon_apply_of_pieces G _ (fun p hp => ?_) y (cover0_A_3 c i arg1 harg1 arg2 harg2 arg3 harg3 arg4 harg4 x0 x1 x2 y)
  rw [run_pieces] at hp
  obtain ⟨D, hD, hp⟩ := List.mem_flatMap.mp hp
  exact h D hD p hp

theorem ldX_apply (bi : Nat) (h : bi < 2) (j : Fin 9) (t : Fin 2048) :
    ldX arg1 harg1 x0 bi h (ix3 0 j t) = x0 (ix3 ⟨bi, h⟩ j t) := by
  unfold ldX
  rw [View.readAt_apply, harg1.read_unread]
  refine congrArg x0 (funext fun a => Fin.ext ?_)
  match a with
  | ⟨0, _⟩ => show bi + 1 * 0 = bi; omega
  | ⟨1, _⟩ => show 0 + 1 * j.val = j.val; omega
  | ⟨2, _⟩ => show 0 + 1 * t.val = t.val; omega

theorem ldW_apply (i g : Nat) (hi : i < 26) (hg : g < 2) (r : Fin 42) (u : Fin 144) :
    ldW arg2 harg2 x1 i g hi hg (ix4 0 0 r u) = x1 (ix4 ⟨i, hi⟩ ⟨g, hg⟩ r u) := by
  unfold ldW
  rw [View.readAt_apply, harg2.read_unread]
  refine congrArg x1 (funext fun a => Fin.ext ?_)
  match a with
  | ⟨0, _⟩ => show i + 1 * 0 = i; omega
  | ⟨1, _⟩ => show g + 1 * 0 = g; omega
  | ⟨2, _⟩ => show 0 + 1 * r.val = r.val; omega
  | ⟨3, _⟩ => show 0 + 1 * u.val = u.val; omega

theorem ldB_apply (g off nf : Nat) (hg : g < 2) (h : off + nf ≤ 59) (r : Fin 42) (f : Fin nf) :
    ldB arg3 harg3 x2 g off nf hg h (ix3 0 r f) = x2 (ix3 ⟨g, hg⟩ r ⟨off + f.val, by omega⟩) := by
  unfold ldB
  rw [View.readAt_apply, harg3.read_unread]
  refine congrArg x2 (funext fun a => Fin.ext ?_)
  match a with
  | ⟨0, _⟩ => show g + 1 * 0 = g; omega
  | ⟨1, _⟩ => show 0 + 1 * r.val = r.val; omega
  | ⟨2, _⟩ => show off + 1 * f.val = off + f.val; omega

end

/-! ## The columns of the output block -/

/-- Where a dilation's biases begin, -/
def offs (i : Fin 26) : Nat :=
  ![0, 8, 14, 16, 18, 22, 24, 26, 28, 30, 32, 34, 36, 38, 40, 42, 44, 46, 48, 50, 52, 54, 55, 56, 57, 58] i
/-- and how many they are. -/
def nfs (i : Fin 26) : Nat := ![8, 6, 2, 2, 4, 2, 2, 2, 2, 2, 2, 2, 2, 2, 2, 2, 2, 2, 2, 2, 2, 1, 1, 1, 1, 1] i

/-- The dilation of a column, -/
def colD (n : Fin 118) : Fin 26 := dof ⟨n.val / 2, by omega⟩
/-- its statistic, -/
def colS (n : Fin 118) : Nat := (n.val - 2 * offs (colD n)) / nfs (colD n)
/-- and its feature. -/
def colF (n : Fin 118) : Fin 59 := ⟨(offs (colD n) + (n.val - 2 * offs (colD n)) % nfs (colD n)) % 59, Nat.mod_lt _ (by decide)⟩

theorem col_facts : ∀ D ∈ dils, ∀ f : Fin D.nf,
    (colS ⟨2 * D.off + f.val, by have := D.hoff; omega⟩ = 0 ∧ (colF ⟨2 * D.off + f.val, by have := D.hoff; omega⟩).val = D.off + f.val) ∧
    (colS ⟨2 * D.off + (D.nf + f.val), by have := D.hoff; omega⟩ = 1 ∧
      (colF ⟨2 * D.off + (D.nf + f.val), by have := D.hoff; omega⟩).val = D.off + f.val) := by decide +kernel

/-- The filter of a row of a half. -/
def flt (r : Fin 42) (g : Fin 2) : Fin 84 := ⟨2 * r.val + g.val, by omega⟩

/-- A feature of a filter in a batch. -/
def feat (C : FVec Ideal ⟨4, ![26, 32, 84, 2048]⟩ .f32) (B : FVec Ideal ⟨2, ![84, 59]⟩ .f32) (s : Nat) (f : Fin 59) (b : Fin 32) (k : Fin 84) :
    EReal := if s = 0 then Ref.shares C B (ix3 f b k) else Ref.ratios C B (ix3 f b k)

section
variable (c : Dev nD) (i : grid0.Coords)
  (arg1 : Memref sig .tc .vmem S2x9x2048 .f32) (harg1 : arg1.IsWhole)
  (arg2 : Memref sig .tc .vmem S26x2x42x144 .bf16) (harg2 : arg2.IsWhole)
  (arg3 : Memref sig .tc .vmem S2x42x59 .f32) (harg3 : arg3.IsWhole)
  (arg4 : Memref sig .tc .vmem S2x2x42x118 .f32) (harg4 : arg4.IsWhole)
  (x0 : Vec Ideal S2x9x2048 .f32) (x1 : Vec Ideal S26x2x42x144 .bf16) (x2 : Vec Ideal S2x42x59 .f32)
  (C : FVec Ideal ⟨4, ![26, 32, 84, 2048]⟩ .f32) (B : FVec Ideal ⟨2, ![84, 59]⟩ .f32)
  (cv : Fin 26 → Fin 32 → Fin 84 → Fin 2048 → ℝ) (bv : Fin 84 → Fin 59 → ℝ) (bt : Fin 2 → Fin 32)
  (hC : ∀ i b k t, C (ix4 i b k t) = ((cv i b k t : ℝ) : EReal)) (hc : ∀ i b k t, |cv i b k t| < 256)
  (hB : ∀ k f, B (ix2 k f) = ((bv k f : ℝ) : EReal))
  (hx : ∀ g r f, x2 (ix3 g r f) = ((bv (flt r g) f : ℝ) : EReal))
  (hP : ∀ D ∈ dils, ∀ (bi g : Nat) (hb : bi < 2) (hg : g < 2) (r : Fin 42) (t : Fin 2048),
    pconv arg1 harg1 arg2 harg2 x0 x1 D bi g hb hg (ix2 r t) = ((cv ⟨D.i, D.hi⟩ (bt ⟨bi, hb⟩) (flt r ⟨g, hg⟩) t + 8192 : ℝ) : EReal))
include hC hc hB hx hP

/-- The output block. -/
def outG (y : S2x2x42x118.Idx) : EReal := feat C B (colS (y 3)) (colF (y 3)) (bt (y 0)) (flt (y 2) (y 1))

theorem piece_apply (D : Dil) (hD : D ∈ dils) (bi g : Nat) (hb : bi < 2) (hg : g < 2) (l h : Nat) (len : BitVec 32) (s : Share)
    (hl : ∀ (f : Fin D.nf) (r : Fin 42), lo ⟨D.off + f.val, by have := D.hoff; omega⟩ (flt r ⟨g, hg⟩) = l)
    (hh : ∀ (f : Fin D.nf) (r : Fin 42), hi ⟨D.off + f.val, by have := D.hoff; omega⟩ (flt r ⟨g, hg⟩) = h)
    (hlen : Ideal.ofBits .f32 len = (((h : ℝ) - l : ℝ) : EReal)) (hs : s.Divides ((h : ℝ) - l))
    (x : (piece arg1 harg1 arg2 harg2 arg3 harg3 x0 x1 x2 D bi g hb hg l h len s).1.shape.Idx) :
    (piece arg1 harg1 arg2 harg2 arg3 harg3 x0 x1 x2 D bi g hb hg l h len s).2 x
      = outG C B bt ((piece arg1 harg1 arg2 harg2 arg3 harg3 x0 x1 x2 D bi g hb hg l h len s).1.emb x) := by
  obtain ⟨h1, h2⟩ := dils_dl D hD
  have ho := D.hoff
  change (⟨4, ![1, 1, 42, 2 * D.nf]⟩ : Shape).Idx at x
  obtain ⟨a0, a1, r, q, rfl⟩ : ∃ a0 a1 r q, x = ix4 a0 a1 r q := ⟨_, _, _, _, eq_ix4 x⟩
  obtain rfl : a0 = 0 := Subsingleton.elim _ _
  obtain rfl : a1 = 0 := Subsingleton.elim _ _
  have he : (piece arg1 harg1 arg2 harg2 arg3 harg3 x0 x1 x2 D bi g hb hg l h len s).1.emb (ix4 0 0 r q)
      = ix4 (⟨bi, hb⟩ : Fin 2) (⟨g, hg⟩ : Fin 2) r (⟨2 * D.off + q.val, by omega⟩ : Fin 118) := by
    funext a
    refine Fin.ext ?_
    match a with
    | ⟨0, _⟩ => show bi + 1 * 0 = bi; omega
    | ⟨1, _⟩ => show g + 1 * 0 = g; omega
    | ⟨2, _⟩ => show 0 + 1 * r.val = r.val; omega
    | ⟨3, _⟩ => show 2 * D.off + 1 * q.val = 2 * D.off + q.val; omega
  refine Eq.trans ?_ (congrArg (outG C B bt) he).symm
  show block D.hnf (pconv arg1 harg1 arg2 harg2 x0 x1 D bi g hb hg) (ldB arg3 harg3 x2 g D.off D.nf hg D.hoff) l h len s (ix4 0 0 r q)
    = feat C B (colS ⟨2 * D.off + q.val, by omega⟩) (colF ⟨2 * D.off + q.val, by omega⟩) (bt ⟨bi, hb⟩) (flt r ⟨g, hg⟩)
  have key : ∀ f : Fin D.nf, (q = ⟨f.val, by omega⟩ ∨ q = ⟨D.nf + f.val, by omega⟩) →
      block D.hnf (pconv arg1 harg1 arg2 harg2 x0 x1 D bi g hb hg) (ldB arg3 harg3 x2 g D.off D.nf hg D.hoff) l h len s (ix4 0 0 r q)
    = feat C B (colS ⟨2 * D.off + q.val, by omega⟩) (colF ⟨2 * D.off + q.val, by omega⟩) (bt ⟨bi, hb⟩) (flt r ⟨g, hg⟩) := by
    intro f hq
    have e1 := hl f r
    have e2 := hh f r
    have e3 := h2 f.val f.isLt
    obtain ⟨⟨k1, k2⟩, k3, k4⟩ := col_facts D hD f
    have l1 := lo_le ⟨D.off + f.val, by omega⟩ (flt r ⟨g, hg⟩)
    have l2 := lt_hi ⟨D.off + f.val, by omega⟩ (flt r ⟨g, hg⟩)
    have l3 := hi_le ⟨D.off + f.val, by omega⟩ (flt r ⟨g, hg⟩)
    rw [e1] at l1
    rw [e2] at l2 l3
    have hL : ((h : ℝ) - l) ≠ 0 := by
      rw [← Nat.cast_sub (by omega)]
      exact Nat.cast_ne_zero.mpr (by omega)
    have hb' : ldB arg3 harg3 x2 g D.off D.nf hg D.hoff (ix3 0 r f)
        = ((bv (flt r ⟨g, hg⟩) ⟨D.off + f.val, by omega⟩ : ℝ) : EReal) := by
      rw [ldB_apply, hx]
    have hC' : ∀ t, C (ix4 (dof ⟨D.off + f.val, by omega⟩) (bt ⟨bi, hb⟩) (flt r ⟨g, hg⟩) t)
        = ((cv ⟨D.i, D.hi⟩ (bt ⟨bi, hb⟩) (flt r ⟨g, hg⟩) t : ℝ) : EReal) := fun t => by rw [e3, hC]
    rcases hq with rfl | rfl
    · rw [k1, show colF ⟨2 * D.off + f.val, by omega⟩ = ⟨D.off + f.val, by omega⟩ from Fin.ext k2]
      refine (block_share D.hnf _ _ l h len s r _ (fun t => hP D hD bi g hb hg r t) (fun t => hc _ _ _ t) (by omega) l3 _ hL hs f _ hb').trans ?_
      unfold feat
      rw [if_pos rfl, Ref.shares_apply C B _ _ _ _ hC' _ (hB _ _), e1, e2]
    · rw [k3, show colF ⟨2 * D.off + (D.nf + f.val), by omega⟩ = ⟨D.off + f.val, by omega⟩ from Fin.ext k4]
      refine (block_ratio D.hnf _ _ l h len s r _ (fun t => hP D hD bi g hb hg r t) (fun t => hc _ _ _ t) (by omega) l3 _ hlen f _ hb').trans ?_
      unfold feat
      rw [if_neg (by decide), Ref.ratios_apply C B _ _ _ _ hC' _ (hB _ _), e1, e2]
  by_cases hq : q.val < D.nf
  · exact key ⟨q.val, hq⟩ (.inl rfl)
  · exact key ⟨q.val - D.nf, by omega⟩ (.inr (Fin.ext (by show q.val = D.nf + (q.val - D.nf); omega)))

theorem out_eq : out0_A_3 (F := Ideal) c i arg1 harg1 arg2 harg2 arg3 harg3 arg4 harg4 x0 x1 x2 = outG C B bt := by
  refine out_of_pieces c i arg1 harg1 arg2 harg2 arg3 harg3 arg4 harg4 x0 x1 x2 _ fun D hD p hp => ?_
  obtain ⟨h1, h2⟩ := dils_dl D hD
  have ho := D.hoff
  have hd := D.hd
  have hfull : ∀ bi hb x, (full arg1 harg1 arg2 harg2 arg3 harg3 x0 x1 x2 D bi hb).2 x
      = outG C B bt ((full arg1 harg1 arg2 harg2 arg3 harg3 x0 x1 x2 D bi hb).1.emb x) := fun bi hb x =>
    piece_apply arg1 harg1 arg2 harg2 arg3 harg3 x0 x1 x2 C B cv bv bt hC hc hB hx hP D hD bi _ hb _ 0 2048 _ (.word 0x3A000000#32)
      (fun f r => by
        unfold lo; rw [h2 f.val f.isLt, if_pos (by show (2 * r.val + D.i % 2) % 2 = D.i % 2; omega)])
      (fun f r => by
        unfold hi; rw [h2 f.val f.isLt, if_pos (by show (2 * r.val + D.i % 2) % 2 = D.i % 2; omega)])
      (by rw [word_2048]; norm_num) (by show Ideal.ofBits .f32 0x3A000000#32 = _; rw [word_all]; norm_num) x
  have hcrop : ∀ bi hb x, (crop arg1 harg1 arg2 harg2 arg3 harg3 x0 x1 x2 D bi hb).2 x
      = outG C B bt ((crop arg1 harg1 arg2 harg2 arg3 harg3 x0 x1 x2 D bi hb).1.emb x) := fun bi hb x =>
    piece_apply arg1 harg1 arg2 harg2 arg3 harg3 x0 x1 x2 C B cv bv bt hC hc hB hx hP D hD bi _ hb _ _ _ _ _
      (fun f r => by
        unfold lo; rw [h2 f.val f.isLt, if_neg (by show ¬ (2 * r.val + (1 - D.i % 2)) % 2 = D.i % 2; omega), ← h1])
      (fun f r => by
        unfold hi; rw [h2 f.val f.isLt, if_neg (by show ¬ (2 * r.val + (1 - D.i % 2)) % 2 = D.i % 2; omega), ← h1])
      (by rw [word_len D hD, Nat.cast_sub (by omega)]; refine congrArg Real.toEReal ?_; push_cast; ring)
      (by
        have h3 : ((2048 - 4 * D.d : ℕ) : ℝ) - ((4 * D.d : ℕ) : ℝ) = 2048 - 8 * D.d := by
          rw [Nat.cast_sub (by omega)]; push_cast; ring
        rw [h3]; exact divides D hD) x
  unfold four at hp
  simp only [List.mem_cons, List.not_mem_nil, or_false] at hp
  rcases hp with rfl | rfl | rfl | rfl
  · exact hcrop _ _
  · exact hfull _ _
  · exact hcrop _ _
  · exact hfull _ _

end

end Cert.Feat
-- ==== Proof.Feat.Host.lean ====
/- The kernel's operands and result as functions of the arguments, in named stages. -/
module

public import proofs.«01_k».proof.Proof.Gen.KernelIdeal.Frame
public import Idealize.ShloMosaic.Lib.StableHlo.Run

@[expose] public section

set_option maxRecDepth 16384

noncomputable section

namespace Cert.Feat.Host

open Cert.KernelIdeal Cert.KernelIdeal.Gen Idealize.ShloMosaic Idealize.ShloMosaic.TcCoe Idealize.SL.Sem

variable {F : FTy → Type} [FloatOps F] [Named F]

/-- The products of the first channel's filters with the combination, taps before channels, -/
def prods (K : FVec F S756x1x9 .f32) (M : FVec F S26x9x84 .f32) : FVec F S26x84x9x9 .f32 :=
  mulf (broadcastInDim S26x84x9x9 ![0, 1, 2, 3] bcast_S1x84x9x1_S26x84x9x9_0_1_2_3
      (broadcastInDim S1x84x9x1 ![1, 2] bcast_S84x9_S1x84x9x1_1_2
        (shapeCast S84x9 (extractStridedSlice S84x1x9 ![0, 0, 0] K slices_S756x1x9_S84x1x9_0_0_0) shapeCasts_S84x1x9_S84x9)))
    (broadcastInDim S26x84x9x9 ![0, 1, 2, 3] bcast_S26x84x1x9_S26x84x9x9_0_1_2_3
      (broadcastInDim S26x84x1x9 ![0, 1, 3] bcast_S26x84x9_S26x84x1x9_0_1_3
        (transpose S26x84x9 [0, 2, 1] M transposes_S26x9x84_S26x84x9_0_2_1)))

/-- filled up to sixteen channels, -/
def filled (K : FVec F S756x1x9 .f32) (M : FVec F S26x9x84 .f32) : FVec F S26x84x9x16 .f32 :=
  pad S26x84x9x16 ![0, 0, 0, 0] ![0, 0, 0, 7] ![0, 0, 0, 0] (prods K M) (sitofp .f32 (constantI S_ 32 0#32))
    pads_S26x84x9x9_S26x84x9x16_000_000_000_070 h_S_

def spot : IVec S2 32 :=
  concatenate S2 0 [⟨S1, broadcastInDim S1 ![] bcast_S_S1 (constantI S_ 32 4#32)⟩,
    ⟨S1, broadcastInDim S1 ![] bcast_S_S1 (constantI S_ 32 9#32)⟩] concatenates_S1_S1_S2_d0

/-- with the packing constant at the middle tap of the row of ones, -/
def raised (K : FVec F S756x1x9 .f32) (M : FVec F S26x9x84 .f32) : FVec F S26x84x9x16 .f32 :=
  Host.scatter scatter_S26x84x9x16_S2_S26x84_01_23_23_0 (fun _ b => b) (filled K M) spot
    (broadcastInDim S26x84 ![] bcast_S_S26x84 (constant S_ .f32 0x46000000#32))

def wrap (l : IVec S84 32) : IVec S84x1 32 :=
  broadcastInDim S84x1 ![0] bcast_S84_S84x1_0
    (select (cmpi .slt l (broadcastInDim S84 ![] bcast_S_S84 (constantI S_ 32 0#32)))
      (addi l (broadcastInDim S84 ![] bcast_S_S84 (constantI S_ 32 84#32))) l)

/-- in the order of the halves. -/
def weights (K : FVec F S756x1x9 .f32) (M : FVec F S26x9x84 .f32) : FVec F S26x2x42x144 .bf16 :=
  truncf .bf16 (shapeCast S26x2x42x144 (Host.gather gather_S26x84x144_S84x1_S26x84x144_02_1_n_n_1_1_261144
    (shapeCast S26x84x144 (raised K M) shapeCasts_S26x84x9x16_S26x84x144) (wrap fun i => lit0 (S84.rowMajor i)))
    shapeCasts_S26x84x144_S26x2x42x144) bitsLt_bf16_f32

def biases (B : FVec F S84x59 .f32) : FVec F S2x42x59 .f32 :=
  shapeCast S2x42x59 (Host.gather gather_S84x59_S84x1_S84x59_1_0_n_n_0_1_159 B (wrap fun i => lit1 (S84.rowMajor i)))
    shapeCasts_S84x59_S2x42x59

/-- The result from the output array. -/
def orders : IVec S9912x1 32 :=
  broadcastInDim S9912x1 ![0] bcast_S9912_S9912x1_0
    (select (cmpi .slt (fun i => lit2 (S9912.rowMajor i)) (broadcastInDim S9912 ![] bcast_S_S9912 (constantI S_ 32 0#32)))
      (addi (fun i => lit2 (S9912.rowMajor i)) (broadcastInDim S9912 ![] bcast_S_S9912 (constantI S_ 32 9912#32)))
      (fun i => lit2 (S9912.rowMajor i)))

def result (o : FVec F S32x2x42x118 .f32) : FVec F S32x9912 .f32 :=
  Host.gather gather_S32x9912_S9912x1_S32x9912_0_1_n_n_1_1_321 (shapeCast S32x9912 o shapeCasts_S32x2x42x118_S32x9912) orders

variable (m : (ℓ : Loc nD τ sig) → Buf (Elt F) ℓ) (c : Dev nD)

theorem V_x : V m c main_arg0 = m ((c.tc : Thread nD τ).loc main_arg0) := by
  unfold V V0
  simp only [List.flatten_cons, List.flatten_nil, List.cons_append, List.nil_append, List.append_nil, StableHlo.TRef.binary, StableHlo.TRef.unary, StableHlo.TRef.toBuf, StableHlo.TRef.ofBuf, cast_eq]
  after_results_simp <;> rfl

theorem V_w : V m c main_v23 = weights (m ((c.tc : Thread nD τ).loc main_arg1)) (m ((c.tc : Thread nD τ).loc main_arg2)) := by
  unfold V V0
  simp only [List.flatten_cons, List.flatten_nil, List.cons_append, List.nil_append, List.append_nil, StableHlo.TRef.binary, StableHlo.TRef.unary, StableHlo.TRef.toBuf, StableHlo.TRef.ofBuf, cast_eq]
  after_results_simp
  rfl

theorem V_b : V m c main_v31 = biases (m ((c.tc : Thread nD τ).loc main_arg3)) := by
  unfold V V0
  simp only [List.flatten_cons, List.flatten_nil, List.cons_append, List.nil_append, List.append_nil, StableHlo.TRef.binary, StableHlo.TRef.unary, StableHlo.TRef.toBuf, StableHlo.TRef.ofBuf, cast_eq]
  after_results_simp
  rfl

theorem V_order : V m c main_c_1 = fun i => lit2 (S9912.rowMajor i) := by
  unfold V V0
  simp only [List.flatten_cons, List.flatten_nil, List.cons_append, List.nil_append, List.append_nil, StableHlo.TRef.binary, StableHlo.TRef.unary, StableHlo.TRef.toBuf, StableHlo.TRef.ofBuf, cast_eq]
  after_results_simp
  rfl

theorem tail_eq : Pipeline.afterTail₀ cfgs (dats m) 0 (V0 m) [hostOps1] c main_v40 = result ((dats m 0 c).arrAt 3 cfg0.N) := by
  unfold Pipeline.afterTail₀
  simp only [List.flatten_cons, List.flatten_nil, List.append_nil]
  after_results_simp
  have h1 : Pipeline.withArrays (cfgs 0).spec c (V0 m c) (fun w => (dats m 0 c).arrAt w (cfgs 0).N) (Proc.tc.devRef main_v32)
      = (dats m 0 c).arrAt 3 cfg0.N :=
    Pipeline.withArrays_arr spec0 (by decide) c (V0 m c) (fun w => (dats m 0 c).arrAt w (cfgs 0).N) 3
  have h2 : Pipeline.withArrays (cfgs 0).spec c (V0 m c) (fun w => (dats m 0 c).arrAt w (cfgs 0).N) (Proc.tc.devRef main_c_1)
      = fun i => lit2 (S9912.rowMajor i) :=
    (Pipeline.withArrays_of_ne spec0 c (V0 m c) (fun w => (dats m 0 c).arrAt w (cfgs 0).N) main_c_1 (by decide)).trans (V_order m c)
  rw [h1, h2]
  rfl

end Cert.Feat.Host
-- ==== Proof.Feat.Weights.lean ====
/- The kernel's weights and biases at an index. -/
module

public import proofs.«01_k».proof.Proof.Feat.Host
public import proofs.«01_k».proof.Proof.Feat.Out
public import Idealize.ShloMosaic.Lib.Routing.OpsSet

@[expose] public section

set_option maxRecDepth 16384

noncomputable section

namespace Cert.Feat.Host

open Cert.KernelIdeal Cert.KernelIdeal.Gen Idealize.ShloMosaic Idealize.ShloMosaic.TcCoe Idealize.SL.Sem

variable (K : FVec Ideal S756x1x9 .f32) (M : FVec Ideal S26x9x84 .f32) (B : FVec Ideal S84x59 .f32)

theorem prods_apply (i : Fin 26) (k : Fin 84) (t c : Fin 9) :
    prods K M (ix4 i k t c) = (K (ix3 ⟨k.val, by omega⟩ 0 t) : EReal) * (M (ix3 i c k) : EReal) := by
  unfold prods
  pointwise

theorem filled_apply (i : Fin 26) (k : Fin 84) (t : Fin 9) (c : Fin 16) :
    filled K M (ix4 i k t c) = if h : c.val < 9 then (K (ix3 ⟨k.val, by omega⟩ 0 t) : EReal) * (M (ix3 i ⟨c.val, h⟩ k) : EReal) else 0 := by
  have h := prods_apply K M i k t
  unfold filled
  pointwise
  split
  · exact h _
  · exact Ref.zero_word

theorem spot_apply : spot (ix1 0) = 4#32 ∧ spot (ix1 1) = 9#32 := by
  constructor <;> rfl

theorem start_0 (u : S26x84.Idx) : scatter_S26x84x9x16_S2_S26x84_01_23_23_0.start u spot 0 = 0 := rfl
theorem start_1 (u : S26x84.Idx) : scatter_S26x84x9x16_S2_S26x84_01_23_23_0.start u spot 1 = 0 := rfl
theorem start_2 (u : S26x84.Idx) : scatter_S26x84x9x16_S2_S26x84_01_23_23_0.start u spot 2 = 4 := by
  have hs : scatter_S26x84x9x16_S2_S26x84_01_23_23_0.siIdx u ⟨0, by decide⟩ = ix1 0 := by
    funext a
    match a with
    | ⟨0, _⟩ => rfl
  show (spot (scatter_S26x84x9x16_S2_S26x84_01_23_23_0.siIdx u ⟨0, by decide⟩)).toInt = 4
  rw [hs, spot_apply.1]; rfl
theorem start_3 (u : S26x84.Idx) : scatter_S26x84x9x16_S2_S26x84_01_23_23_0.start u spot 3 = 9 := by
  have hs : scatter_S26x84x9x16_S2_S26x84_01_23_23_0.siIdx u ⟨1, by decide⟩ = ix1 1 := by
    funext a
    match a with
    | ⟨0, _⟩ => rfl
  show (spot (scatter_S26x84x9x16_S2_S26x84_01_23_23_0.siIdx u ⟨1, by decide⟩)).toInt = 9
  rw [hs, spot_apply.2]; rfl
theorem window_0 (u : S26x84.Idx) : scatter_S26x84x9x16_S2_S26x84_01_23_23_0.window u 0 = (u 0).val := rfl
theorem window_1 (u : S26x84.Idx) : scatter_S26x84x9x16_S2_S26x84_01_23_23_0.window u 1 = (u 1).val := rfl
theorem window_2 (u : S26x84.Idx) : scatter_S26x84x9x16_S2_S26x84_01_23_23_0.window u 2 = 0 := rfl
theorem window_3 (u : S26x84.Idx) : scatter_S26x84x9x16_S2_S26x84_01_23_23_0.window u 3 = 0 := rfl

theorem raised_apply (i : Fin 26) (k : Fin 84) (t : Fin 9) (c : Fin 16) :
    raised K M (ix4 i k t c) = if t.val = 4 ∧ c.val = 9 then ((8192 : ℝ) : EReal) else filled K M (ix4 i k t c) := by
  have key : ∀ u : S26x84.Idx, scatter_S26x84x9x16_S2_S26x84_01_23_23_0.resultIdx? u spot = some (ix4 i k t c) ↔
      ∀ a, scatter_S26x84x9x16_S2_S26x84_01_23_23_0.start u spot a + (scatter_S26x84x9x16_S2_S26x84_01_23_23_0.window u a : Int)
        = ((ix4 i k t c a).val : Int) := fun u => Routing.resultIdx?_eq_some _ _ _ _
  have hval : ∀ u : S26x84.Idx, broadcastInDim (α := EReal) S26x84 ![] bcast_S_S26x84 (constant (F := Ideal) S_ .f32 0x46000000#32) u = ((8192 : ℝ) : EReal) :=
    fun u => word_pack
  unfold raised
  by_cases h : t.val = 4 ∧ c.val = 9
  · rw [if_pos h]
    refine Routing.scatter_set_hit _ _ _ _ _ _ (fun u _ => hval u) (ix2 i k) ((key _).mpr fun a => ?_)
    match a with
    | ⟨0, _⟩ => erw [start_0, window_0]; exact zero_add _
    | ⟨1, _⟩ => erw [start_1, window_1]; exact zero_add _
    | ⟨2, _⟩ => erw [start_2, window_2]; show (4 : Int) + 0 = (t.val : Int); omega
    | ⟨3, _⟩ => erw [start_3, window_3]; show (9 : Int) + 0 = (c.val : Int); omega
  · rw [if_neg h]
    refine Routing.scatter_set_miss _ _ _ _ _ fun u hu => h ?_
    have h2 := (key u).mp hu
    have h3 := h2 2
    have h4 := h2 3
    rw [start_2, window_2] at h3
    rw [start_3, window_3] at h4
    have h5 : (4 : Int) + 0 = (t.val : Int) := h3
    have h6 : (9 : Int) + 0 = (c.val : Int) := h4
    omega

theorem wrap_apply (l : IVec S84 32) (n : Fin 84 → Nat) (h : ∀ k, l (ix1 k) = BitVec.ofNat 32 (n k)) (hn : ∀ k, n k < 84) (k : Fin 84) :
    wrap l (ix2 k 0) = BitVec.ofNat 32 (n k) := by
  have h1 := h k
  unfold wrap
  pointwise
  rw [h1]
  exact wrap_word _ (by have := hn k; omega) _

/-- The filter at a place of the halves' order. -/
def nth (p : Fin 84) : Nat := 2 * (p.val % 42) + p.val / 42

theorem perm0 : ∀ k : Fin 84, (fun i => lit0 (S84.rowMajor i)) (ix1 k) = BitVec.ofNat 32 (nth k) := by decide +kernel
theorem perm1 : ∀ k : Fin 84, (fun i => lit1 (S84.rowMajor i)) (ix1 k) = BitVec.ofNat 32 (nth k) := by decide +kernel
theorem nth_lt (k : Fin 84) : nth k < 84 := by unfold nth; omega

theorem biases_apply (g : Fin 2) (r : Fin 42) (f : Fin 59) : biases B (ix3 g r f) = B (ix2 (flt r g) f) := by
  have hk : nth ⟨g.val * 42 + r.val, by omega⟩ = (flt r g).val := by unfold nth flt; show 2 * ((g.val * 42 + r.val) % 42) + (g.val * 42 + r.val) / 42 = 2 * r.val + g.val; omega
  unfold biases
  pointwise
  refine gather_at _ _ _ _ _ fun a => ?_
  match a with
  | ⟨0, _⟩ =>
    have hs : gather_S84x59_S84x1_S84x59_1_0_n_n_0_1_159.siIdx (ix2 (⟨g.val * 42 + r.val, by omega⟩ : Fin 84) f) ⟨0, by decide⟩
        = ix2 (⟨g.val * 42 + r.val, by omega⟩ : Fin 84) 0 := by
      funext a
      match a with
      | ⟨0, _⟩ => rfl
      | ⟨1, _⟩ => rfl
    show min (wrap (fun i => lit1 (S84.rowMajor i)) (gather_S84x59_S84x1_S84x59_1_0_n_n_0_1_159.siIdx
      (ix2 (⟨g.val * 42 + r.val, by omega⟩ : Fin 84) f) ⟨0, by decide⟩)).toInt.toNat 83 + 0 + 0 = (flt r g).val
    rw [hs, wrap_apply _ nth perm1 nth_lt, hk, word_toInt _ (by omega)]; omega
  | ⟨1, _⟩ => exact Nat.zero_add _

theorem weights_apply (i : Fin 26) (g : Fin 2) (r : Fin 42) (t : Fin 9) (c : Fin 16) :
    weights K M (ix4 i g r ⟨t.val * 16 + c.val, by omega⟩) = raised K M (ix4 i (flt r g) t c) := by
  have hk : nth ⟨g.val * 42 + r.val, by omega⟩ = (flt r g).val := by unfold nth flt; show 2 * ((g.val * 42 + r.val) % 42) + (g.val * 42 + r.val) / 42 = 2 * r.val + g.val; omega
  have hc : shapeCast S26x84x144 (raised K M) shapeCasts_S26x84x9x16_S26x84x144 (ix3 i (flt r g) ⟨t.val * 16 + c.val, by omega⟩)
      = raised K M (ix4 i (flt r g) t c) := shapeCast_apply _ _ _ _ (by
    rw [Shape.rowMajor_val_three, Shape.rowMajor_val_four]
    show ((i.val * 84 + (flt r g).val) * 9 + t.val) * 16 + c.val = (i.val * 84 + (flt r g).val) * 144 + (t.val * 16 + c.val)
    omega)
  unfold weights
  pointwise
  rw [← hc]
  refine gather_at _ _ _ _ _ fun a => ?_
  match a with
  | ⟨0, _⟩ => exact Nat.zero_add _
  | ⟨1, _⟩ =>
    have hs : gather_S26x84x144_S84x1_S26x84x144_02_1_n_n_1_1_261144.siIdx
        (ix3 i (⟨g.val * 42 + r.val, by omega⟩ : Fin 84) (⟨t.val * 16 + c.val, by omega⟩ : Fin 144)) ⟨0, by decide⟩
        = ix2 (⟨g.val * 42 + r.val, by omega⟩ : Fin 84) 0 := by
      funext a
      match a with
      | ⟨0, _⟩ => rfl
      | ⟨1, _⟩ => rfl
    show min (wrap (fun i => lit0 (S84.rowMajor i)) (gather_S26x84x144_S84x1_S26x84x144_02_1_n_n_1_1_261144.siIdx
      (ix3 i (⟨g.val * 42 + r.val, by omega⟩ : Fin 84) (⟨t.val * 16 + c.val, by omega⟩ : Fin 144)) ⟨0, by decide⟩)).toInt.toNat 83
      + 0 + 0 = (flt r g).val
    rw [hs, wrap_apply _ nth perm0 nth_lt, hk, word_toInt _ (by omega)]; omega
  | ⟨2, _⟩ => exact Nat.zero_add _

end Cert.Feat.Host
-- ==== Proof.Feat.Kern.lean ====
/- The kernel's combined convolution is the reference's over the reals, offset by one constant. -/
module

public import proofs.«01_k».proof.Proof.Feat.Conv
public import proofs.«01_k».proof.Proof.Feat.Out
public import proofs.«01_k».proof.Proof.Feat.Weights

@[expose] public section

set_option maxRecDepth 16384

noncomputable section

namespace Cert.Feat

open Cert.KernelIdeal Cert.KernelIdeal.Gen Idealize.ShloMosaic Idealize.ShloMosaic.TcCoe Idealize.SL.Sem
open Finset

section
variable (X : FVec Ideal ⟨3, ![32, 9, 2048]⟩ .f32) (K : FVec Ideal ⟨3, ![756, 1, 9]⟩ .f32) (M : FVec Ideal ⟨3, ![26, 9, 84]⟩ .f32)
  (cv : Fin 26 → Fin 32 → Fin 84 → Fin 2048 → ℝ)
  (hM : ∀ i, ∃ q : ℝ, M i = ((q : ℝ) : EReal))
  (hch : ∀ (c : Fin 9) (f : Fin 84) (s : Fin 9), K (ix3 (chan c f) 0 s) = K (ix3 (chan 0 f) 0 s))
  (hC : ∀ i b f t, refConv X K M i b f t = ((cv i b f t : ℝ) : EReal))

include hM hch hC

/-- Where the combined convolutions are real numbers, so are the kernel's products, and they add up to the same. -/
theorem pconv_real (arg1 : Memref sig .tc .vmem S2x9x2048 .f32) (harg1 : arg1.IsWhole)
    (arg2 : Memref sig .tc .vmem S26x2x42x144 .bf16) (harg2 : arg2.IsWhole)
    (x0 : Vec Ideal S2x9x2048 .f32) (x1 : Vec Ideal S26x2x42x144 .bf16) (bt : Fin 2 → Fin 32)
    (hx0 : ∀ bi j t, x0 (ix3 bi j t) = X (ix3 (bt bi) j t)) (hx1 : x1 = Host.weights K M)
    (D : Dil) (hD : D ∈ dils) (bi g : Nat) (hb : bi < 2) (hg : g < 2) (r : Fin 42) (t : Fin 2048) :
    pconv arg1 harg1 arg2 harg2 x0 x1 D bi g hb hg (ix2 r t)
      = ((cv ⟨D.i, D.hi⟩ (bt ⟨bi, hb⟩) (flt r ⟨g, hg⟩) t + 8192 : ℝ) : EReal) := by
  have hc := hC ⟨D.i, D.hi⟩ (bt ⟨bi, hb⟩) (flt r ⟨g, hg⟩) t
  generalize cv ⟨D.i, D.hi⟩ (bt ⟨bi, hb⟩) (flt r ⟨g, hg⟩) t = v at hc ⊢
  have hc2 : ∑ c : Fin 9, (M (ix3 ⟨D.i, D.hi⟩ c (flt r ⟨g, hg⟩)) : EReal) * ∑ s : Fin 9, (K (ix3 (chan 0 (flt r ⟨g, hg⟩)) 0 s) : EReal)
      * tape (fun c t => X (ix3 (bt ⟨bi, hb⟩) c t)) D.d c s t = ((v : ℝ) : EReal) := by
    rw [← hc, (dils_dl D hD).1]
    unfold refConv
    refine sum_congr rfl fun c _ => congrArg _ (sum_congr rfl fun s _ => ?_)
    rw [← hch c]
    rfl
  obtain ⟨a, ha, hs⟩ := real_products _ _ _ (fun c => hM _) v hc2
  rw [← hs]
  unfold pconv
  refine conv_apply _ _ _ _ r t _ _ _ a (fun s c => ?_) (fun c t => ?_) ha
  · rw [ldW_apply, hx1, Host.weights_apply, Host.raised_apply]
    by_cases h : s.val = 4 ∧ c.val = 9
    · rw [if_pos h, if_pos h]
    · rw [if_neg h, if_neg h, Host.filled_apply]
      by_cases h1 : c.val < 9
      · rw [dif_pos h1, dif_pos h1, show (chan 0 (flt r ⟨g, hg⟩)) = ⟨(flt r ⟨g, hg⟩).val, by omega⟩ from Fin.ext (by show 0 * 84 + (flt r ⟨g, hg⟩).val = (flt r ⟨g, hg⟩).val; omega)]
      · rw [dif_neg h1, dif_neg h1]
  · rw [rows_apply]
    by_cases h1 : c.val < 9
    · rw [dif_pos h1, dif_pos h1, ldX_apply, hx0]
    · rw [dif_neg h1, dif_neg h1]

end

end Cert.Feat
-- ==== Proof.Feat.Pre.lean ====
/- What the precondition says of the arguments. -/
module

public import proofs.«01_k».proof.Proof.Feat.RefConv
public import proofs.«01_k».proof.Proof.Gen.Pre_ordinary
public import Idealize.ShloMosaic.Lib.ReduceAll
public import Idealize.ShloMosaic.Lib.Pointwise

@[expose] public section

set_option maxRecDepth 16384

noncomputable section

namespace Cert.Feat.Pre

open Cert.Pre_ordinary Cert.Pre_ordinary.Gen Idealize.ShloMosaic Idealize.ShloMosaic.TcCoe Idealize.SL.Sem

theorem lit0_eq : Cert.Pre_ordinary.lit0 = Cert.ReferenceIdeal.lit0 := by
  funext i; revert i; decide +kernel

theorem fn_eq (X : FVec Ideal S32x9x2048 .f32) (K : FVec Ideal S756x1x9 .f32) (M : FVec Ideal S26x9x84 .f32) (B : FVec Ideal S84x59 .f32) :
    fn (F := Ideal) X K M B = fn_part1 (F := Ideal) M B (shapeCast S9x84x9 K shapeCasts_S756x1x9_S9x84x9) (Ref.convs X K M) := by
  unfold fn
  simp only [lit0_eq]
  rfl

theorem word_inf : Ideal.ofBits .f32 0x7F800000#32 = (⊤ : EReal) := by
  simp [Ideal.ofBits, Ideal.ieee]

theorem word_256 : Ideal.ofBits .f32 0x43800000#32 = ((256 : ℝ) : EReal) := by
  simp [Ideal.ofBits, Ideal.ieee, -EReal.coe_mul]; norm_num

theorem ofBool_one (p : Bool) : (BitVec.ofBool p = 1#1) ↔ p = true := by cases p <;> decide

instance : Subsingleton S_.Idx := ⟨fun a b => funext fun i => i.elim0⟩

theorem split (X : FVec Ideal S32x9x2048 .f32) (K : FVec Ideal S756x1x9 .f32) (M : FVec Ideal S26x9x84 .f32) (B : FVec Ideal S84x59 .f32)
    (h : fn (F := Ideal) X K M B = fun _ => 1#1) :
    (∀ i, cmpf .olt (Host.absf M) (broadcastInDim S26x9x84 ![] bcast_S_S26x9x84 (constant (F := Ideal) S_ .f32 0x7F800000#32)) i = 1#1)
    ∧ (∀ i, cmpf .olt (Host.absf B) (broadcastInDim S84x59 ![] bcast_S_S84x59 (constant (F := Ideal) S_ .f32 0x7F800000#32)) i = 1#1)
    ∧ (∀ i, cmpf .oeq (shapeCast S9x84x9 K shapeCasts_S756x1x9_S9x84x9) (broadcastInDim S9x84x9 ![0, 1, 2] bcast_S1x84x9_S9x84x9_0_1_2
        (extractStridedSlice S1x84x9 ![0, 0, 0] (shapeCast S9x84x9 K shapeCasts_S756x1x9_S9x84x9) slices_S9x84x9_S1x84x9_0_0_0)) i = 1#1)
    ∧ (∀ i, cmpf .olt (Host.absf (Ref.convs X K M)) (broadcastInDim S26x32x84x2048 ![] bcast_S_S26x32x84x2048 (constant (F := Ideal) S_ .f32 0x43800000#32)) i = 1#1) := by
  rw [fn_eq] at h
  have h0 := congrFun h fun i => i.elim0
  obtain ⟨h1, hc⟩ := IntOp.andi_eq_one.1 h0
  obtain ⟨h1, hf⟩ := IntOp.andi_eq_one.1 h1
  obtain ⟨hM, hB⟩ := IntOp.andi_eq_one.1 h1
  exact ⟨Host.reduce_andi_all _ _ _ _ _ hM,
    Host.reduce_andi_all _ _ _ _ _ hB, Host.reduce_andi_all _ _ _ _ _ hf, Host.reduce_andi_all _ _ _ _ _ hc⟩

theorem below {s : Shape} (v : FVec Ideal s .f32) (w : BitVec 32) (hb : S_.BroadcastsInDim s ![]) (i : s.Idx)
    (h : cmpf .olt (Host.absf v) (broadcastInDim s ![] hb (constant (F := Ideal) S_ .f32 w)) i = 1#1) :
    max (v i : EReal) (-(v i : EReal)) < (Ideal.ofBits .f32 w : EReal) := by
  have h2 := (ofBool_one _).1 h
  exact of_decide_eq_true h2

theorem real_of (a : EReal) (h : max a (-a) < (⊤ : EReal)) : ∃ r : ℝ, a = ((r : ℝ) : EReal) := by
  induction a using EReal.rec with
  | bot => simp at h
  | coe r => exact ⟨r, rfl⟩
  | top => simp at h

theorem facts (X : FVec Ideal S32x9x2048 .f32) (K : FVec Ideal S756x1x9 .f32) (M : FVec Ideal S26x9x84 .f32) (B : FVec Ideal S84x59 .f32)
    (h : fn (F := Ideal) X K M B = fun _ => 1#1) :
    (∀ i, ∃ q : ℝ, M i = ((q : ℝ) : EReal)) ∧ (∃ x : S84x59.Idx → ℝ, ∀ i, B i = ((x i : ℝ) : EReal))
    ∧ (∀ (c : Fin 9) (f : Fin 84) (s : Fin 9), K (ix3 (chan c f) 0 s) = K (ix3 (chan 0 f) 0 s))
    ∧ (∀ i b k t, max (Ref.convs X K M (ix4 i b k t) : EReal) (-(Ref.convs X K M (ix4 i b k t) : EReal)) < ((256 : ℝ) : EReal)) := by
  obtain ⟨hM, hB, hf, hc⟩ := split X K M B h
  refine ⟨fun i => real_of _ (word_inf ▸ below _ _ _ _ (hM i)), Classical.skolem.1 fun i => real_of _ (word_inf ▸ below _ _ _ _ (hB i)), ?_, ?_⟩
  · intro c f s
    have h2 := (ofBool_one _).1 (hf (ix3 c f s))
    have h3 : (shapeCast S9x84x9 K shapeCasts_S756x1x9_S9x84x9 (ix3 c f s) : EReal) = broadcastInDim S9x84x9 ![0, 1, 2] bcast_S1x84x9_S9x84x9_0_1_2
        (extractStridedSlice S1x84x9 ![0, 0, 0] (shapeCast S9x84x9 K shapeCasts_S756x1x9_S9x84x9) slices_S9x84x9_S1x84x9_0_0_0) (ix3 c f s) := of_decide_eq_true h2
    pointwise at h3
    exact h3.trans (congrArg (fun q => K (ix3 q 0 s)) (Fin.ext (by show f.val = 0 * 84 + f.val; omega)))
  · intro i b k t
    exact word_256 ▸ below _ _ _ _ (hc (ix4 i b k t))

end Cert.Feat.Pre
-- ==== Proof.Feat.Array.lean ====
/- The output array after the run. -/
module

public import proofs.«01_k».proof.Proof.Feat.Kern
public import proofs.«01_k».proof.Proof.Feat.Host
public import proofs.«01_k».proof.Proof.Feat.Pre
public import proofs.«01_k».proof.Proof.Gen.KernelIdeal.Frame
public import proofs.«01_k».proof.Proof.Gen.KernelIdeal.Points
public import Idealize.ShloMosaic.Lib.Pipeline.ValueKit

@[expose] public section

set_option maxRecDepth 16384

noncomputable section

namespace Cert.Feat.Array

open Cert.KernelIdeal Cert.KernelIdeal.Gen Idealize.ShloMosaic Idealize.ShloMosaic.TcCoe Idealize.SL.Sem

theorem points : cfg0.N = 16 := by decide

theorem at_x : ∀ t : Fin cfg0.N, win0_0.index t 0 = t.val ∧ win0_0.index t 1 = 0 ∧ win0_0.index t 2 = 0 := by decide +kernel
theorem at_w : ∀ t : Fin cfg0.N, win0_1.index t 0 = 0 ∧ win0_1.index t 1 = 0 ∧ win0_1.index t 2 = 0 ∧ win0_1.index t 3 = 0 := by decide +kernel
theorem at_b : ∀ t : Fin cfg0.N, win0_2.index t 0 = 0 ∧ win0_2.index t 1 = 0 ∧ win0_2.index t 2 = 0 := by decide +kernel
theorem at_o : ∀ t : Fin cfg0.N, win0_3.index t 0 = t.val ∧ win0_3.index t 1 = 0 ∧ win0_3.index t 2 = 0 ∧ win0_3.index t 3 = 0 := by decide +kernel

/-- A block's batches in the whole. -/
def bt (t : Fin cfg0.N) (bi : Fin 2) : Fin 32 := ⟨2 * t.val + bi.val, by have h : t.val < 16 := lt_of_lt_of_eq t.isLt points; omega⟩

variable (m : (ℓ : Loc nD τ sig) → Buf (Elt Ideal) ℓ) (c : Dev nD)

theorem blk_x (t : Fin cfg0.N) (bi : Fin 2) (j : Fin 9) (l : Fin 2048) :
    (iblk m c 0 t : Vec Ideal S2x9x2048 .f32) (ix3 bi j l) = (m ((c.tc : Thread nD τ).loc main_arg0) : FVec Ideal S32x9x2048 .f32) (ix3 (bt t bi) j l) := by
  have h := at_x t
  rw [← Host.V_x m c]
  unfold iblk
  rw [View.read_apply]
  show V m c main_arg0 _ = V m c main_arg0 _
  congr 1
  funext a
  apply Fin.ext
  match a with
  | ⟨0, _⟩ => show win0_0.index t 0 * 2 + 1 * bi.val = 2 * t.val + bi.val; rw [h.1]; omega
  | ⟨1, _⟩ => show win0_0.index t 1 * 9 + 1 * j.val = j.val; rw [h.2.1]; omega
  | ⟨2, _⟩ => show win0_0.index t 2 * 2048 + 1 * l.val = l.val; rw [h.2.2]; omega

theorem blk_w (t : Fin cfg0.N) : @Eq (Vec Ideal S26x2x42x144 .bf16) (iblk m c 1 t)
    (Host.weights (F := Ideal) (m ((c.tc : Thread nD τ).loc main_arg1)) (m ((c.tc : Thread nD τ).loc main_arg2))) := by
  have h := at_w t
  rw [← Host.V_w m c]
  funext y
  unfold iblk
  rw [View.read_apply]
  show V m c main_v23 _ = V m c main_v23 _
  congr 1
  funext a
  apply Fin.ext
  match a with
  | ⟨0, _⟩ => show win0_1.index t 0 * 26 + 1 * (y 0).val = (y 0).val; rw [h.1]; omega
  | ⟨1, _⟩ => show win0_1.index t 1 * 2 + 1 * (y 1).val = (y 1).val; rw [h.2.1]; omega
  | ⟨2, _⟩ => show win0_1.index t 2 * 42 + 1 * (y 2).val = (y 2).val; rw [h.2.2.1]; omega
  | ⟨3, _⟩ => show win0_1.index t 3 * 144 + 1 * (y 3).val = (y 3).val; rw [h.2.2.2]; omega

theorem blk_b (t : Fin cfg0.N) : @Eq (Vec Ideal S2x42x59 .f32) (iblk m c 2 t) (Host.biases (F := Ideal) (m ((c.tc : Thread nD τ).loc main_arg3))) := by
  have h := at_b t
  rw [← Host.V_b m c]
  funext y
  unfold iblk
  rw [View.read_apply]
  show V m c main_v31 _ = V m c main_v31 _
  congr 1
  funext a
  apply Fin.ext
  match a with
  | ⟨0, _⟩ => show win0_2.index t 0 * 2 + 1 * (y 0).val = (y 0).val; rw [h.1]; omega
  | ⟨1, _⟩ => show win0_2.index t 1 * 42 + 1 * (y 1).val = (y 1).val; rw [h.2.1]; omega
  | ⟨2, _⟩ => show win0_2.index t 2 * 59 + 1 * (y 2).val = (y 2).val; rw [h.2.2]; omega

/-- The whole output. -/
def val (C : FVec Ideal Cert.ReferenceIdeal.S26x32x84x2048 .f32) (B : FVec Ideal Cert.ReferenceIdeal.S84x59 .f32) : FVec Ideal S32x2x42x118 .f32 :=
  fun y => feat C B (colS (y 3)) (colF (y 3)) (y 0) (flt (y 2) (y 1))

section
variable (b : (⟨2, ![84, 59]⟩ : Shape).Idx → ℝ)
  (X : FVec Ideal ⟨3, ![32, 9, 2048]⟩ .f32) (K : FVec Ideal ⟨3, ![756, 1, 9]⟩ .f32) (M : FVec Ideal ⟨3, ![26, 9, 84]⟩ .f32)
  (B : FVec Ideal ⟨2, ![84, 59]⟩ .f32)
  (eX : m ((c.tc : Thread nD τ).loc main_arg0) = X) (eK : m ((c.tc : Thread nD τ).loc main_arg1) = K)
  (eM : m ((c.tc : Thread nD τ).loc main_arg2) = M) (eB : m ((c.tc : Thread nD τ).loc main_arg3) = B)
  (hM : ∀ i, ∃ q : ℝ, M i = ((q : ℝ) : EReal))
  (hB : ∀ i, B i = ((b i : ℝ) : EReal))
  (hch : ∀ (c : Fin 9) (f : Fin 84) (s : Fin 9), K (ix3 (chan c f) 0 s) = K (ix3 (chan 0 f) 0 s))
  (hlt : ∀ i b f t, max (Ref.convs X K M (ix4 i b f t) : EReal) (-(Ref.convs X K M (ix4 i b f t) : EReal)) < ((256 : ℝ) : EReal))

include eX eK eM eB hM hB hch hlt

theorem block_eq (t : Fin cfg0.N) : (outsAt0 m c t : Vec Ideal S2x2x42x118 .f32) = outG (Ref.convs X K M) B (bt t) := by
  have hr : ∀ i b f t, ∃ q : ℝ, Ref.convs X K M (ix4 i b f t) = ((q : ℝ) : EReal) := fun i b f t => Pre.real_of _ ((hlt i b f t).trans (EReal.coe_lt_top _))
  choose cv hC using hr
  unfold outsAt0
  refine out_eq c _ _ _ _ _ _ _ _ _ _ _ _ (Ref.convs X K M) B cv (fun f q => b (ix2 f q)) (bt t) hC (fun i b f t => ?_) (fun f q => hB _) (fun g r f => ?_) ?_
  · have h := hlt i b f t
    rw [hC, ← EReal.coe_neg, (EReal.coe_strictMono.monotone.map_max).symm, EReal.coe_lt_coe_iff] at h
    exact h
  · rw [blk_b, Host.biases_apply, eB]; exact hB _
  · intro D hD bi g hb hg r l
    exact pconv_real X K M cv hM hch (fun i b f t => by rw [← Ref.convs_apply]; exact hC i b f t) _ _ _ _ _ _ (bt t) (fun bi j l => by rw [blk_x, eX]) (by rw [blk_w, eK, eM]) D hD bi g hb hg r l

theorem flushed_eq (t : Fin cfg0.N) : (dats m 0 c).flushed 3 t = ((cfg0.win 3).blk t).view.read (Elt Ideal) (val (Ref.convs X K M) B) := by
  have h := at_o t
  show (cfg0.win 3).cut (cfg0.grid.coords t) ((dats m 0 c).after 3 t) = _
  rw [after0_3, block_eq m c b X K M B eX eK eM eB hM hB hch hlt]
  funext y
  show outG (Ref.convs X K M) B (bt t) y = val (Ref.convs X K M) B (((cfg0.win 3).blk t).view.emb y)
  have e0 : ((cfg0.win 3).blk t).view.emb y = ix4 (bt t (y 0)) (y 1) (y 2) (y 3) := by
    funext a
    apply Fin.ext
    match a with
    | ⟨0, _⟩ => show win0_3.index t 0 * 2 + 1 * (y 0).val = 2 * t.val + (y 0).val; rw [h.1]; omega
    | ⟨1, _⟩ => show win0_3.index t 1 * 2 + 1 * (y 1).val = (y 1).val; rw [h.2.1]; omega
    | ⟨2, _⟩ => show win0_3.index t 2 * 42 + 1 * (y 2).val = (y 2).val; rw [h.2.2.1]; omega
    | ⟨3, _⟩ => show win0_3.index t 3 * 118 + 1 * (y 3).val = (y 3).val; rw [h.2.2.2]; omega
  rw [e0]
  rfl

omit eX eK eM eB hM hB hch hlt in
theorem cover (i : S32x2x42x118.Idx) : ∃ t : Fin cfg0.N, (cfg0.win 3).flush t = true ∧ i ∈ ((cfg0.win 3).blk t).view.set := by
  have hi0 : (i 0).val < 32 := (i 0).isLt
  let t0 : Fin cfg0.N := ⟨(i 0).val / 2, by rw [points]; omega⟩
  refine ⟨t0, flush0_3 t0, ?_⟩
  show i ∈ ((View.whole main_v32).slice ((cfg0.win 3).rect t0)).set
  erw [View.set_slice_whole]
  refine (Pipeline.Window.mem_rect_iff (cfg0.win 3) t0 i (by rfl)).mpr fun a => ?_
  have h := at_o t0
  match a with
  | ⟨0, _⟩ =>
    show win0_3.index t0 0 * 2 ≤ (i 0).val ∧ (i 0).val < win0_3.index t0 0 * 2 + 2
    rw [h.1]; show (i 0).val / 2 * 2 ≤ (i 0).val ∧ (i 0).val < (i 0).val / 2 * 2 + 2; omega
  | ⟨1, _⟩ =>
    have := (i 1).isLt
    show win0_3.index t0 1 * 2 ≤ (i 1).val ∧ (i 1).val < win0_3.index t0 1 * 2 + 2
    rw [h.2.1]; exact ⟨by omega, by simpa using this⟩
  | ⟨2, _⟩ =>
    have := (i 2).isLt
    show win0_3.index t0 2 * 42 ≤ (i 2).val ∧ (i 2).val < win0_3.index t0 2 * 42 + 42
    rw [h.2.2.1]; exact ⟨by omega, by simpa using this⟩
  | ⟨3, _⟩ =>
    have := (i 3).isLt
    show win0_3.index t0 3 * 118 ≤ (i 3).val ∧ (i 3).val < win0_3.index t0 3 * 118 + 118
    rw [h.2.2.2]; exact ⟨by omega, by simpa using this⟩

theorem final : (dats m 0 c).arrAt 3 cfg0.N = val (Ref.convs X K M) B :=
  (dats m 0 c).arrAt_eq_of_cover 3 (val (Ref.convs X K M) B)
    (fun t _ => flushed_eq m c b X K M B eX eK eM eB hM hB hch hlt t) cover

end

end Cert.Feat.Array
-- ==== Proof.Feat.Table.lean ====
/- The two tables of the result's columns name the same features. -/
module

public import proofs.«01_k».proof.Proof.Feat.Host
public import proofs.«01_k».proof.Proof.Feat.Out

@[expose] public section

set_option maxRecDepth 16384

noncomputable section

namespace Cert.Feat.Order

open Cert.KernelIdeal Cert.KernelIdeal.Gen Idealize.ShloMosaic Idealize.ShloMosaic.TcCoe Idealize.SL.Sem

/-- The kernel's slot of a column, and the reference's. -/
def slotK (n : Nat) : Nat := (Cert.KernelIdeal.lit2t n).toNat
def slotR (n : Nat) : Nat := (Cert.ReferenceIdeal.lit4t n).toNat

/-- Two slots hold the same feature of the same filter. -/
def Same (p q : Nat) : Prop :=
  p < 9912 ∧ q / 4956 = colS ⟨p % 118, Nat.mod_lt _ (by decide)⟩ ∧ q / 4956 < 2
    ∧ q % 4956 / 59 = 2 * (p / 118 % 42) + p / 118 / 42 ∧ q % 4956 % 59 = (colF ⟨p % 118, Nat.mod_lt _ (by decide)⟩).val

instance (p q : Nat) : Decidable (Same p q) := inferInstanceAs (Decidable (_ ∧ _))

theorem same_block : ∀ a : Fin 84, ∀ b : Fin 118, Same (slotK (a.val * 118 + b.val)) (slotR (a.val * 118 + b.val)) := by decide +kernel

theorem same (o : Fin 9912) : Same (slotK o.val) (slotR o.val) := by
  have h := same_block ⟨o.val / 118, by omega⟩ ⟨o.val % 118, by omega⟩
  have e : o.val / 118 * 118 + o.val % 118 = o.val := by omega
  rwa [e] at h

end Cert.Feat.Order
-- ==== Proof.Feat.Order.lean ====
/- The two orders of the result's columns are the same features. -/
module

public import proofs.«01_k».proof.Proof.Feat.Host
public import proofs.«01_k».proof.Proof.Feat.Table
public import Idealize.ShloMosaic.Lib.Pointwise
public import Idealize.ShloMosaic.Lib.Pipeline.Value

@[expose] public section

set_option maxRecDepth 16384

noncomputable section

namespace Cert.Feat.Order

open Cert.KernelIdeal Cert.KernelIdeal.Gen Idealize.ShloMosaic Idealize.ShloMosaic.TcCoe Idealize.SL.Sem

theorem wrapped_apply (l : IVec S9912 32) (o : Fin 9912) (h : (l (ix1 o)).toNat < 9912) :
    broadcastInDim S9912x1 ![0] bcast_S9912_S9912x1_0
    (select (cmpi .slt l (broadcastInDim S9912 ![] bcast_S_S9912 (constantI S_ 32 0#32)))
      (addi l (broadcastInDim S9912 ![] bcast_S_S9912 (constantI S_ 32 9912#32))) l) (ix2 o 0) = BitVec.ofNat 32 (l (ix1 o)).toNat := by
  have e : l (ix1 o) = BitVec.ofNat 32 (l (ix1 o)).toNat := by simp
  pointwise
  generalize l (ix1 o) = w at *
  have h2 := wrap_word w.toNat (by omega) (w + 9912#32)
  rw [← e] at h2
  exact h2.trans e

theorem flat_ix1 (o : Fin 9912) : S9912.rowMajor (ix1 o) = o := Fin.ext (by rw [Shape.rowMajor_val_one]; rfl)

theorem pick_apply (v : FVec Ideal S32x9912 .f32) (idx : IVec S9912x1 32) (b : Fin 32) (o : Fin 9912) (q : Fin 9912)
    (h : idx (ix2 o 0) = BitVec.ofNat 32 q.val) :
    Host.gather gather_S32x9912_S9912x1_S32x9912_0_1_n_n_1_1_321 v idx (ix2 b o) = v (ix2 b q) := by
  refine gather_at _ _ _ _ _ fun a => ?_
  match a with
  | ⟨0, _⟩ => exact Nat.zero_add _
  | ⟨1, _⟩ =>
    have hs : gather_S32x9912_S9912x1_S32x9912_0_1_n_n_1_1_321.siIdx (ix2 b o) ⟨0, by decide⟩ = ix2 o 0 := by
      funext a
      match a with
      | ⟨0, _⟩ => rfl
      | ⟨1, _⟩ => rfl
    show min (idx (gather_S32x9912_S9912x1_S32x9912_0_1_n_n_1_1_321.siIdx (ix2 b o) ⟨0, by decide⟩)).toInt.toNat 9911 + 0 + 0 = q.val
    rw [hs, h, word_toInt _ (by omega)]; omega

theorem host_apply (y : FVec Ideal S32x2x42x118 .f32) (b : Fin 32) (o : Fin 9912) (hp : slotK o.val < 9912) :
    Host.result y (ix2 b o) = y (ix4 b ⟨slotK o.val / 118 / 42, by omega⟩ ⟨slotK o.val / 118 % 42, by omega⟩ ⟨slotK o.val % 118, by omega⟩) := by
  unfold Host.result
  refine (pick_apply _ _ b o ⟨slotK o.val, hp⟩ ((wrapped_apply (fun i => lit2 (S9912.rowMajor i)) o (by rw [flat_ix1]; exact hp)).trans (by rw [flat_ix1]; rfl))).trans ?_
  refine shapeCast_apply _ _ _ _ ?_
  rw [Shape.rowMajor_val_four, Shape.rowMajor_val_two]
  show ((b.val * 2 + slotK o.val / 118 / 42) * 42 + slotK o.val / 118 % 42) * 118 + slotK o.val % 118 = b.val * 9912 + slotK o.val
  omega

theorem flat_apply (v : FVec Ideal Cert.ReferenceIdeal.S59x32x84 .f32) (b : Fin 32) (u : Fin 4956) :
    Ref.flat v (ix2 b u) = v (ix3 ⟨u.val % 59, by omega⟩ b ⟨u.val / 59, by omega⟩) := by
  unfold Ref.flat
  refine (shapeCast_apply _ _ _ (ix3 b ⟨u.val / 59, by omega⟩ ⟨u.val % 59, by omega⟩) ?_).trans ?_
  · rw [Shape.rowMajor_val_three, Shape.rowMajor_val_two]
    show (b.val * 84 + u.val / 59) * 59 + u.val % 59 = b.val * 4956 + u.val
    omega
  · pointwise

theorem stats_apply (C : FVec Ideal Cert.ReferenceIdeal.S26x32x84x2048 .f32) (B : FVec Ideal Cert.ReferenceIdeal.S84x59 .f32) (b : Fin 32) (q : Fin 9912) :
    Ref.stats C B (ix2 b q) = feat C B (q.val / 4956) ⟨q.val % 4956 % 59, by omega⟩ b ⟨q.val % 4956 / 59, by omega⟩ := by
  unfold Ref.stats feat
  by_cases h : q.val < 4956
  · rw [if_pos (by omega)]
    refine (concatenate_apply_piece (t := Cert.ReferenceIdeal.S32x9912) (1 : Fin 2) _ _ _ 0 (by simp) Cert.ReferenceIdeal.S32x4956 _ rfl rfl 0 (by simp)
      (ix2 b ⟨q.val % 4956, by omega⟩) ?_ ?_).trans (flat_apply _ _ _)
    · intro a ha
      match a with
      | ⟨0, _⟩ => rfl
      | ⟨1, _⟩ => exact absurd rfl ha
    · show 0 + q.val % 4956 = q.val; omega
  · rw [if_neg (by omega)]
    refine (concatenate_apply_piece (t := Cert.ReferenceIdeal.S32x9912) (1 : Fin 2) _ _ _ 1 (by simp) Cert.ReferenceIdeal.S32x4956 _ rfl rfl 4956 (by simp)
      (ix2 b ⟨q.val % 4956, by omega⟩) ?_ ?_).trans (flat_apply _ _ _)
    · intro a ha
      match a with
      | ⟨0, _⟩ => rfl
      | ⟨1, _⟩ => exact absurd rfl ha
    · show 4956 + q.val % 4956 = q.val; omega

theorem ref_apply (X : FVec Ideal ⟨3, ![32, 9, 2048]⟩ .f32) (K : FVec Ideal ⟨3, ![756, 1, 9]⟩ .f32) (M : FVec Ideal ⟨3, ![26, 9, 84]⟩ .f32)
    (B : FVec Ideal ⟨2, ![84, 59]⟩ .f32) (b : Fin 32) (o : Fin 9912) (hq : slotR o.val < 9912) :
    Ref.result X K M B (ix2 b o) = Ref.stats (Ref.convs X K M) B (ix2 b ⟨slotR o.val, hq⟩) := by
  unfold Ref.result
  exact pick_apply _ _ b o ⟨slotR o.val, hq⟩
    ((wrapped_apply (fun i => Cert.ReferenceIdeal.lit4 (S9912.rowMajor i)) o (by rw [flat_ix1]; exact hq)).trans (by rw [flat_ix1]; rfl))

end Cert.Feat.Order
-- ==== Proof.Feat.Final.lean ====
/- The value claim. -/
module

public import proofs.«01_k».proof.Defs
public import proofs.«01_k».proof.Proof.Feat.Array
public import proofs.«01_k».proof.Proof.Feat.Order
public import proofs.«01_k».proof.Proof.Feat.Pre

@[expose] public section

set_option maxRecDepth 16384

noncomputable section

namespace Cert.Feat.Final

open Cert.KernelIdeal Cert.KernelIdeal.Gen Idealize.ShloMosaic Idealize.ShloMosaic.TcCoe Idealize.SL.Sem

/-- Both orders of the features give one result. -/
theorem result_eq (X : FVec Ideal ⟨3, ![32, 9, 2048]⟩ .f32) (K : FVec Ideal ⟨3, ![756, 1, 9]⟩ .f32) (M : FVec Ideal ⟨3, ![26, 9, 84]⟩ .f32)
    (B : FVec Ideal ⟨2, ![84, 59]⟩ .f32) : Host.result (Array.val (Ref.convs X K M) B) = Ref.result X K M B := by
  funext j
  obtain ⟨b, o, rfl⟩ : ∃ b o, j = ix2 b o := ⟨j 0, j 1, by funext a; match a with | ⟨0, _⟩ => rfl | ⟨1, _⟩ => rfl⟩
  obtain ⟨hp, h1, h2, h3, h4⟩ := Order.same o
  have hq : Order.slotR o.val < 9912 := by omega
  rw [Order.host_apply _ b o hp, Order.ref_apply X K M B b o hq, Order.stats_apply]
  show feat (Ref.convs X K M) B (colS ⟨Order.slotK o.val % 118, _⟩) (colF ⟨Order.slotK o.val % 118, _⟩) b (flt ⟨Order.slotK o.val / 118 % 42, _⟩ ⟨Order.slotK o.val / 118 / 42, _⟩) = _
  have e1 : colF ⟨Order.slotK o.val % 118, Nat.mod_lt _ (by decide)⟩ = ⟨Order.slotR o.val % 4956 % 59, Nat.mod_lt _ (by decide)⟩ := Fin.ext h4.symm
  have e2 : flt ⟨Order.slotK o.val / 118 % 42, Nat.mod_lt _ (by decide)⟩ ⟨Order.slotK o.val / 118 / 42, by omega⟩
      = ⟨Order.slotR o.val % 4956 / 59, by omega⟩ := Fin.ext h3.symm
  rw [e1, e2, ← h1]

/-- What the kernel leaves. -/
theorem left_eq (m : (ℓ : Loc nD τ sig) → Buf (Elt Ideal) ℓ) (hpre : Cert.Pre_KernelIdeal_ordinary m) (c : Dev nD) :
    Pipeline.afterTail₀ cfgs (dats m) 0 (V0 m) [hostOps1] c main_v40
      = Ref.result (F := Ideal) (m ((c.tc : Thread nD τ).loc main_arg0)) (m ((c.tc : Thread nD τ).loc main_arg1))
        (m ((c.tc : Thread nD τ).loc main_arg2)) (m ((c.tc : Thread nD τ).loc main_arg3)) := by
  obtain ⟨hM, ⟨b, hB⟩, hch, hlt⟩ := Pre.facts _ _ _ _ (hpre c)
  rw [Host.tail_eq, Array.final m c b _ _ _ _ rfl rfl rfl rfl hM hB hch hlt]
  exact result_eq _ _ _ _

theorem run (m : (ℓ : Loc nD τ sig) → Buf (Elt Ideal) ℓ) (g : Dev nD → PrngReg) (hpre : Cert.Pre_KernelIdeal_ordinary m) :
    θ_run (Cert.KernelIdeal.defs (F := Ideal)) (onTc (τ := τ) (Cert.KernelIdeal.main (F := Ideal))) ⟨m, fun _ => 0, g⟩ fun r => ∀ c : Dev nD,
      r.2.mem ((c.tc : Thread nD τ).loc main_v40)
        = Ref.result (F := Ideal) (m ((c.tc : Thread nD τ).loc main_arg0)) (m ((c.tc : Thread nD τ).loc main_arg1))
          (m ((c.tc : Thread nD τ).loc main_arg2)) (m ((c.tc : Thread nD τ).loc main_arg3)) :=
  (θ_run defs _ _).mono (fun _ hr c => ((hr c).2 main_v40 (by decide)).trans (left_eq m hpre c)) (run_main m g)

theorem algebraic : Cert.algebraic_KernelIdeal_ReferenceIdeal_pre_ordinary := by
  intro m g m' g' hpre hagree
  refine ⟨fun c => Ref.result (F := Ideal) (m ((c.tc : Thread nD τ).loc main_arg0)) (m ((c.tc : Thread nD τ).loc main_arg1))
    (m ((c.tc : Thread nD τ).loc main_arg2)) (m ((c.tc : Thread nD τ).loc main_arg3)), ?_, ?_⟩
  · exact (θ_run defs _ _).mono (fun _ h c => ⟨h.1 c, h.2 c⟩) (θ_run_and (run m g hpre) (unchanged m g))
  · refine (θ_run Cert.ReferenceIdeal.defs _ _).mono (fun _ h c => ⟨(h c).1.trans ?_, (h c).2⟩) (Cert.ReferenceIdeal.Value.run (F := Ideal) m' g')
    obtain ⟨h0, h1, h2, h3⟩ := hagree c
    refine (Ref.out_eq m' c).trans ?_
    rw [h0, h1, h2, h3]

end Cert.Feat.Final
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_ordinary
public import proofs.«01_k».proof.Proof.Feat.Final
public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem frame_ri : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

theorem preserves : Cert.preserves_Kernel_KernelIdeal := by
  unfold Cert.preserves_Kernel_KernelIdeal
  refine ⟨?_, ?_, ?_, ?_, ?_, ?_, ?_, ?_, ?_, ?_, ?_, ?_, ?_, ?_, ?_, ?_, ?_, ?_, ?_, ?_, ?_, ?_⟩
  all_goals exact IdealRules.named_const.statement Cert.KernelIdeal.κ _ _ _ _ rfl

theorem claim : Cert.Claim :=
  ⟨Cert.Kernel.Gen.facts, Cert.KernelIdeal.Gen.facts, Cert.ReferenceIdeal.Gen.facts, Cert.Pre_ordinary.Gen.facts,
    fun m g _ => Cert.Kernel.Gen.frame m g, fun m g _ => Cert.KernelIdeal.Gen.frame m g,
    fun m g _ => Cert.KernelIdeal.Gen.frame m g, frame_ri, fun m g _ => frame_ri m g trivial, preserves, Cert.Feat.Final.algebraic⟩

end Cert.Proof

end
